-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_router [hPre_finite_router : Cert.Pre_finite_router.Facts] (m : (ℓ : Loc Cert.ProjIdeal.nD Cert.ProjIdeal.τ Cert.ProjIdeal.sig) → Buf (Elt Ideal) ℓ) : Prop :=
  ∀ c : Dev Cert.ProjIdeal.nD,
    (Cert.Pre_finite_router.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).1 = (fun _ => 1#1)
    ∧ (Cert.Pre_finite_router.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_router [hPre_finite_router : Cert.Pre_finite_router.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_router.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).1 = (fun _ => 1#1)
    ∧ (Cert.Pre_finite_router.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_finite_router [hProjIdeal : Cert.ProjIdeal.Facts] [hPre_finite_router : Cert.Pre_finite_router.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_router m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_finite_router [hProjRefIdeal : Cert.ProjRefIdeal.Facts] [hPre_finite_router : Cert.Pre_finite_router.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_router m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v57)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v57) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v102) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v34)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v34) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v19) = v0 c
          ∧ r.2.mem ((c.tc : Thread Cert.QkvRefIdeal.nD Cert.QkvRefIdeal.τ).loc Cert.QkvRefIdeal.main_v20) = v1 c
          ∧ r.2.mem ((c.tc : Thread Cert.QkvRefIdeal.nD Cert.QkvRefIdeal.τ).loc Cert.QkvRefIdeal.main_v21) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Proj_ProjIdeal : Prop :=
  True

def algebraic_ProjIdeal_ProjRefIdeal_pre_finite_router [hProjIdeal : Cert.ProjIdeal.Facts] [hProjRefIdeal : Cert.ProjRefIdeal.Facts] [hPre_finite_router : Cert.Pre_finite_router.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_router m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_v18) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hProj : Cert.Proj.Facts) (hProjIdeal : Cert.ProjIdeal.Facts) (hProjRefIdeal : Cert.ProjRefIdeal.Facts) (hPre_finite_scores : Cert.Pre_finite_scores.Facts) (hPre_finite_router : Cert.Pre_finite_router.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Proj (hProj := hProj)
    ∧ quiescent_ProjIdeal (hProjIdeal := hProjIdeal)
    ∧ quiescent_ProjIdeal_pre_finite_router (hProjIdeal := hProjIdeal) (hPre_finite_router := hPre_finite_router)
    ∧ quiescent_ProjRefIdeal (hProjRefIdeal := hProjRefIdeal)
    ∧ quiescent_ProjRefIdeal_pre_finite_router (hProjRefIdeal := hProjRefIdeal) (hPre_finite_router := hPre_finite_router)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Proj_ProjIdeal
    ∧ algebraic_ProjIdeal_ProjRefIdeal_pre_finite_router (hProjIdeal := hProjIdeal) (hProjRefIdeal := hProjRefIdeal) (hPre_finite_router := hPre_finite_router)
-- ==== Pre_finite_router.lean ====
abbrev S49152x1024 : Shape := ⟨2, ![49152, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S1024 : S_.BroadcastsInDim S1024 (![] : Fin 0 → Fin S1024.rank)
  bcast_S_S1024x16 : S_.BroadcastsInDim S1024x16 (![] : Fin 0 → Fin S1024x16.rank)

variable [Facts]

def fn {F : FTy → Type} [FloatOps F] (main_arg0 : FVec F S49152x1024 .bf16) (main_arg1 : FVec F S1024x1024 .f32) (main_arg2 : FVec F S49152x1024 .f32) (main_arg3 : FVec F S1024 .f32) (main_arg4 : FVec F S1024x16 .f32) : IVec S1024 1 × IVec S1024x16 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x16 .f32 := Host.absf main_arg4
  let main_cst_0 : FVec F S_ .f32 := constant S_ .f32 0x7F800000#32
  let main_v4 : FVec F S1024x16 .f32 := broadcastInDim S1024x16 ![] bcast_S_S1024x16 main_cst_0
  let main_v5 : IVec S1024x16 1 := cmpf .olt main_v3 main_v4
  (main_v2, main_v5)
-- ==== Pre_finite_scores.lean ====
abbrev S49152x1024 : Shape := ⟨2, ![49152, 1024]⟩
abbrev S16x15x31 : Shape := ⟨3, ![16, 15, 31]⟩
abbrev S_ : Shape := ⟨0, ![]⟩

class Facts : Prop where
  bitsLt_bf16_f32 : FTy.bits .bf16 < FTy.bits .f32
  bcast_S_S49152x1024 : S_.BroadcastsInDim S49152x1024 (![] : Fin 0 → Fin S49152x1024.rank)
  bcast_S_S16x15x31 : S_.BroadcastsInDim S16x15x31 (![] : Fin 0 → Fin S16x15x31.rank)

variable [Facts]

def fn {F : FTy → Type} [FloatOps F] (main_arg0 : FVec F S49152x1024 .bf16) (main_arg1 : FVec F S49152x1024 .bf16) (main_arg2 : FVec F S49152x1024 .bf16) (main_arg3 : FVec F S16x15x31 .f32) : IVec S49152x1024 1 × IVec S49152x1024 1 × IVec S16x15x31 1 :=
  let main_v0 : FVec F S49152x1024 .f32 := (extf .f32 · bitsLt_bf16_f32) main_arg0
  let main_v1 : FVec F S49152x1024 .f32 := Host.absf main_v0
  let main_cst : FVec F S_ .f32 := constant S_ .f32 0x7F800000#32
  let main_v2 : FVec F S49152x1024 .f32 := broadcastInDim S49152x1024 ![] bcast_S_S49152x1024 main_cst
  let main_v3 : IVec S49152x1024 1 := cmpf .olt main_v1 main_v2
  let main_v4 : FVec F S49152x1024 .f32 := (extf .f32 · bitsLt_bf16_f32) main_arg1
  let main_v5 : FVec F S49152x1024 .f32 := Host.absf main_v4
  let main_cst_0 : FVec F S_ .f32 := constant S_ .f32 0x7F800000#32
  let main_v6 : FVec F S49152x1024 .f32 := broadcastInDim S49152x1024 ![] bcast_S_S49152x1024 main_cst_0
  let main_v7 : IVec S49152x1024 1 := cmpf .olt main_v5 main_v6
  let main_v8 : FVec F S16x15x31 .f32 := Host.absf main_arg3
  let main_cst_1 : FVec F S_ .f32 := constant S_ .f32 0x7F800000#32
  let main_v9 : FVec F S16x15x31 .f32 := broadcastInDim S16x15x31 ![] bcast_S_S16x15x31 main_cst_1
  let main_v10 : IVec S16x15x31 1 := cmpf .olt main_v8 main_v9
  (main_v3, main_v7, main_v10)
-- ==== Attn.lean ====
abbrev S49152x1024 : Shape := ⟨2, ![49152, 1024]⟩
abbrev S16x15x31 : Shape := ⟨3, ![16, 15, 31]⟩
abbrev S8 : Shape := ⟨1, ![8]⟩
abbrev S8x1x1x1 : Shape := ⟨4, ![8, 1, 1, 1]⟩
abbrev S64 : Shape := ⟨1, ![64]⟩
abbrev S1x64x1x1 : Shape := ⟨4, ![1, 64, 1, 1]⟩
abbrev S1x1x8x1 : Shape := ⟨4, ![1, 1, 8, 1]⟩
abbrev S1x1x1x64 : Shape := ⟨4, ![1, 1, 1, 64]⟩
abbrev S_ : Shape := ⟨0, ![]⟩
abbrev S1x64x1x64 : Shape := ⟨4, ![1, 64, 1, 64]⟩
abbrev S8x1x8x1 : Shape := ⟨4, ![8, 1, 8, 1]⟩
abbrev S8x8 : Shape := ⟨2, ![8, 8]⟩
abbrev S64x64 : Shape := ⟨2, ![64, 64]⟩
abbrev S8x8x1 : Shape := ⟨3, ![8, 8, 1]⟩
abbrev S16x8x8x31 : Shape := ⟨4, ![16, 8, 8, 31]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x8x1x8x1x31 : Shape := ⟨6, ![16, 8, 1, 8, 1, 31]⟩
abbrev S64x64x31 : Shape := ⟨3, ![64, 64, 31]⟩
abbrev S1x1x64x1x64x31 : Shape := ⟨6, ![1, 1, 64, 1, 64, 31]⟩
abbrev S16x8x64x8x64x31 : Shape := ⟨6, ![16, 8, 64, 8, 64, 31]⟩
abbrev S16x8x64x8x64 : Shape := ⟨5, ![16, 8, 64, 8, 64]⟩
abbrev S1x1x64x1x64 : Shape := ⟨5, ![1, 1, 64, 1, 64]⟩
abbrev S8x2x8x64x512 : Shape := ⟨5, ![8, 2, 8, 64, 512]⟩
abbrev S2048x128 : Shape := ⟨2, ![2048, 128]⟩
abbrev S1x2x8x64x512 : Shape := ⟨5, ![1, 2, 8, 64, 512]⟩
abbrev S1x128 : Shape := ⟨2, ![1, 128]⟩
abbrev S64x128 : Shape := ⟨2, ![64, 128]⟩
abbrev S512x128 : Shape := ⟨2, ![512, 128]⟩
abbrev S64x512 : Shape := ⟨2, ![64, 512]⟩
abbrev S1x1x1x64x512 : Shape := ⟨5, ![1, 1, 1, 64, 512]⟩
abbrev S64x1 : Shape := ⟨2, ![64, 1]⟩

abbrev nBuf : Space → Nat
  | .hbm => 87
  | .vmem => 10
  | .smem => 0
  | _ => 0

abbrev bufTy : (tb : Table) → Fin (tcTables nBuf tb) → BufTy
  | .hbm, ⟨0, _⟩ => ⟨S49152x1024, .bf16⟩
  | .hbm, ⟨1, _⟩ => ⟨S49152x1024, .bf16⟩
  | .hbm, ⟨2, _⟩ => ⟨S49152x1024, .bf16⟩
  | .hbm, ⟨3, _⟩ => ⟨S16x15x31, .f32⟩
  | .hbm, ⟨4, _⟩ => ⟨S8, .i32⟩
  | .hbm, ⟨5, _⟩ => ⟨S8x1x1x1, .i32⟩
  | .hbm, ⟨6, _⟩ => ⟨S64, .i32⟩
  | .hbm, ⟨7, _⟩ => ⟨S1x64x1x1, .i32⟩
  | .hbm, ⟨8, _⟩ => ⟨S8, .i32⟩
  | .hbm, ⟨9, _⟩ => ⟨S1x1x8x1, .i32⟩
  | .hbm, ⟨10, _⟩ => ⟨S64, .i32⟩
  | .hbm, ⟨11, _⟩ => ⟨S1x1x1x64, .i32⟩
  | .hbm, ⟨12, _⟩ => ⟨S_, .i32⟩
  | .hbm, ⟨13, _⟩ => ⟨S1x64x1x1, .i32⟩
  | .hbm, ⟨14, _⟩ => ⟨S1x64x1x1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1x64x1x1, .i32⟩
  | .hbm, ⟨19, _⟩ => ⟨S1x64x1x1, .i32⟩
  | .hbm, ⟨20, _⟩ => ⟨S_, .i32⟩
  | .hbm, ⟨21, _⟩ => ⟨S1x64x1x1, .i32⟩
  | .hbm, ⟨22, _⟩ => ⟨S1x64x1x1, .i32⟩
  | .hbm, ⟨23, _⟩ => ⟨S1x64x1x64, .i32⟩
  | .hbm, ⟨24, _⟩ => ⟨S1x64x1x64, .i32⟩
  | .hbm, ⟨25, _⟩ => ⟨S1x64x1x64, .i1⟩
  | .hbm, ⟨26, _⟩ => ⟨S_, .i32⟩
  | .hbm, ⟨27, _⟩ => ⟨S1x64x1x1, .i32⟩
  | .hbm, ⟨28, _⟩ => ⟨S1x64x1x1, .i32⟩
  | .hbm, ⟨29, _⟩ => ⟨S1x64x1x64, .i32⟩
  | .hbm, ⟨30, _⟩ => ⟨S1x64x1x64, .i32⟩
  | .hbm, ⟨31, _⟩ => ⟨S1x64x1x64, .i1⟩
  | .hbm, ⟨32, _⟩ => ⟨S1x64x1x64, .i1⟩
  | .hbm, ⟨33, _⟩ => ⟨S8x1x8x1, .i32⟩
  | .hbm, ⟨34, _⟩ => ⟨S8x1x8x1, .i32⟩
  | .hbm, ⟨35, _⟩ => ⟨S8x1x8x1, .i32⟩
  | .hbm, ⟨36, _⟩ => ⟨S_, .i32⟩
  | .hbm, ⟨37, _⟩ => ⟨S8x1x8x1, .i32⟩
  | .hbm, ⟨38, _⟩ => ⟨S8x1x8x1, .i32⟩
  | .hbm, ⟨39, _⟩ => ⟨S8x8, .i32⟩
  | .hbm, ⟨40, _⟩ => ⟨S1x64x1x64, .i32⟩
  | .hbm, ⟨41, _⟩ => ⟨S1x64x1x64, .i32⟩
  | .hbm, ⟨42, _⟩ => ⟨S1x64x1x64, .i32⟩
  | .hbm, ⟨43, _⟩ => ⟨S_, .i32⟩
  | .hbm, ⟨44, _⟩ => ⟨S1x64x1x64, .i32⟩
  | .hbm, ⟨45, _⟩ => ⟨S1x64x1x64, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x64x1x64, .i32⟩
  | .hbm, ⟨50, _⟩ => ⟨S1x64x1x64, .i32⟩
  | .hbm, ⟨51, _⟩ => ⟨S_, .i32⟩
  | .hbm, ⟨52, _⟩ => ⟨S1x64x1x64, .i32⟩
  | .hbm, ⟨53, _⟩ => ⟨S1x64x1x64, .i32⟩
  | .hbm, ⟨54, _⟩ => ⟨S64x64, .i32⟩
  | .hbm, ⟨55, _⟩ => ⟨S_, .i32⟩
  | .hbm, ⟨56, _⟩ => ⟨S8x8, .i32⟩
  | .hbm, ⟨57, _⟩ => ⟨S8x8, .i1⟩
  | .hbm, ⟨58, _⟩ => ⟨S_, .i32⟩
  | .hbm, ⟨59, _⟩ => ⟨S8x8, .i32⟩
  | .hbm, ⟨60, _⟩ => ⟨S8x8, .i32⟩
  | .hbm, ⟨61, _⟩ => ⟨S8x8, .i32⟩
  | .hbm, ⟨62, _⟩ => ⟨S8x8x1, .i32⟩
  | .hbm, ⟨63, _⟩ => ⟨S16x8x8x31, .f32⟩
  | .hbm, ⟨64, _⟩ => ⟨S1x64x64, .i32⟩
  | .hbm, ⟨65, _⟩ => ⟨S31, .i32⟩
  | .hbm, ⟨66, _⟩ => ⟨S31x1x1, .i32⟩
  | .hbm, ⟨67, _⟩ => ⟨S31x64x64, .i32⟩
  | .hbm, ⟨68, _⟩ => ⟨S31x64x64, .i32⟩
  | .hbm, ⟨69, _⟩ => ⟨S31x64x64, .i1⟩
  | .hbm, ⟨70, _⟩ => ⟨S31x64x64, .f32⟩
  | .hbm, ⟨71, _⟩ => ⟨S16x8x1x8x1x31, .f32⟩
  | .hbm, ⟨72, _⟩ => ⟨S64x64x31, .f32⟩
  | .hbm, ⟨73, _⟩ => ⟨S1x1x64x1x64x31, .f32⟩
  | .hbm, ⟨74, _⟩ => ⟨S16x8x64x8x64x31, .f32⟩
  | .hbm, ⟨75, _⟩ => ⟨S16x8x64x8x64x31, .f32⟩
  | .hbm, ⟨76, _⟩ => ⟨S16x8x64x8x64x31, .f32⟩
  | .hbm, ⟨77, _⟩ => ⟨S_, .f32⟩
  | .hbm, ⟨78, _⟩ => ⟨S16x8x64x8x64, .f32⟩
  | .hbm, ⟨79, _⟩ => ⟨S1x1x64x1x64, .i1⟩
  | .hbm, ⟨80, _⟩ => ⟨S_, .f32⟩
  | .hbm, ⟨81, _⟩ => ⟨S_, .f32⟩
  | .hbm, ⟨82, _⟩ => ⟨S16x8x64x8x64, .i1⟩
  | .hbm, ⟨83, _⟩ => ⟨S16x8x64x8x64, .f32⟩
  | .hbm, ⟨84, _⟩ => ⟨S16x8x64x8x64, .f32⟩
  | .hbm, ⟨85, _⟩ => ⟨S8x2x8x64x512, .f32⟩
  | .hbm, ⟨86, _⟩ => ⟨S49152x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x8x64x512, .f32⟩
  | .local _ .vmem, ⟨7, _⟩ => ⟨S1x2x8x64x512, .f32⟩
  | .local _ .vmem, ⟨8, _⟩ => ⟨S2048x128, .bf16⟩
  | .local _ .vmem, ⟨9, _⟩ => ⟨S2048x128, .bf16⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_c_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 24], ![false, false]⟩

@[reducible] def k0_t1_loop : Scf.Loop 32 :=
  let c0_i32 : BitVec 32 := 0#32
  let c32_i32 : BitVec 32 := 32#32
  let v12 : BitVec 32 := Scalar.addi c0_i32 c32_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32_4 : BitVec 32 := 64#32
  let v17 : BitVec 32 := Scalar.muli arg7 c64_i32_4
  v17
def k0_mult2 (k0_t1 : Fin k0_t1_loop.trips) : BitVec 32 :=
  let c24_i32 : BitVec 32 := 24#32
  let c0_i32_3 : BitVec 32 := 0#32
  let c0_i32 : BitVec 32 := 0#32
  let c1_i32 : BitVec 32 := 1#32
  let arg7 : BitVec 32 := Scf.iv c0_i32 c1_i32 k0_t1
  let c4_i32 : BitVec 32 := 4#32
  let v13 : BitVec 32 := Scalar.subi arg7 c4_i32
  let v14 : BitVec 32 := Scalar.maxsi c0_i32_3 v13
  let v15 : BitVec 32 := Scalar.minsi c24_i32 v14
  let c64_i32_5 : BitVec 32 := 64#32
  let v19 : BitVec 32 := Scalar.muli v15 c64_i32_5
  v19
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_4 : BitVec 32 := 64#32
  let v17 : BitVec 32 := Scalar.muli arg7 c64_i32_4
  let v18 : BitVec 32 := v17
  let v21 : Index := Scalar.indexCast v18
  let c0 : Index := 0#32
  ![v21.toNat, 0]
def k0_off2 (k0_t1 : Fin k0_t1_loop.trips) : Fin 2 → Nat :=
  let c24_i32 : BitVec 32 := 24#32
  let c0_i32_3 : BitVec 32 := 0#32
  let c0_i32 : BitVec 32 := 0#32
  let c1_i32 : BitVec 32 := 1#32
  let arg7 : BitVec 32 := Scf.iv c0_i32 c1_i32 k0_t1
  let c4_i32 : BitVec 32 := 4#32
  let v13 : BitVec 32 := Scalar.subi arg7 c4_i32
  let v14 : BitVec 32 := Scalar.maxsi c0_i32_3 v13
  let v15 : BitVec 32 := Scalar.minsi c24_i32 v14
  let c64_i32_5 : BitVec 32 := 64#32
  let v19 : BitVec 32 := Scalar.muli v15 c64_i32_5
  let v20 : BitVec 32 := v19
  let v24 : Index := Scalar.indexCast v20
  let c0_6 : Index := 0#32
  ![v24.toNat, 0]
def k0_off3 (k0_t1 : Fin k0_t1_loop.trips) : Fin 5 → Nat :=
  let c0_8 : Index := 0#32
  let c0_9 : Index := 0#32
  let c0_i32 : BitVec 32 := 0#32
  let c1_i32 : BitVec 32 := 1#32
  let arg7 : BitVec 32 := Scf.iv c0_i32 c1_i32 k0_t1
  let c24_i32 : BitVec 32 := 24#32
  let c0_i32_3 : BitVec 32 := 0#32
  let c4_i32 : BitVec 32 := 4#32
  let v13 : BitVec 32 := Scalar.subi arg7 c4_i32
  let v14 : BitVec 32 := Scalar.maxsi c0_i32_3 v13
  let v15 : BitVec 32 := Scalar.minsi c24_i32 v14
  let v16 : BitVec 32 := Scalar.subi arg7 v15
  let v32 : Index := Scalar.indexCast v16
  let c0_10 : Index := 0#32
  let c0_11 : Index := 0#32
  ![0, 0, v32.toNat, 0, 0]
def k0_off4 (k0_t1 : Fin k0_t1_loop.trips) : Fin 5 → Nat :=
  let c0_16 : Index := 0#32
  let c1 : Index := 1#32
  let c0_i32 : BitVec 32 := 0#32
  let c1_i32 : BitVec 32 := 1#32
  let arg7 : BitVec 32 := Scf.iv c0_i32 c1_i32 k0_t1
  let c24_i32 : BitVec 32 := 24#32
  let c0_i32_3 : BitVec 32 := 0#32
  let c4_i32 : BitVec 32 := 4#32
  let v13 : BitVec 32 := Scalar.subi arg7 c4_i32
  let v14 : BitVec 32 := Scalar.maxsi c0_i32_3 v13
  let v15 : BitVec 32 := Scalar.minsi c24_i32 v14
  let v16 : BitVec 32 := Scalar.subi arg7 v15
  let v51 : Index := Scalar.indexCast v16
  let c0_17 : Index := 0#32
  let c0_18 : Index := 0#32
  ![0, 1, v51.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S49152x1024 : Shape := ⟨2, ![49152, 1024]⟩
abbrev S16x15x31 : Shape := ⟨3, ![16, 15, 31]⟩
abbrev S24x32x64x16x64 : Shape := ⟨5, ![24, 32, 64, 16, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S24x32x8x64x16x64 : Shape := ⟨6, ![24, 32, 8, 64, 16, 64]⟩
abbrev S64x16x1 : Shape := ⟨3, ![64, 16, 1]⟩
abbrev S24x32x8x64x16x16x64 : Shape := ⟨7, ![24, 32, 8, 64, 16, 16, 64]⟩
abbrev S32x8x1x1 : Shape := ⟨4, ![32, 8, 1, 1]⟩
abbrev S1x1x64x16 : Shape := ⟨4, ![1, 1, 64, 16]⟩
abbrev S32x8x64x16 : Shape := ⟨4, ![32, 8, 64, 16]⟩
abbrev S32x8x64x16x1 : Shape := ⟨5, ![32, 8, 64, 16, 1]⟩
abbrev S32x8x64x16x2 : Shape := ⟨5, ![32, 8, 64, 16, 2]⟩
abbrev S16x32x8x64x16 : Shape := ⟨5, ![16, 32, 8, 64, 16]⟩
abbrev S32x16x64x8x16 : Shape := ⟨5, ![32, 16, 64, 8, 16]⟩
abbrev S24x32x16x64x8x16 : Shape := ⟨6, ![24, 32, 16, 64, 8, 16]⟩
abbrev S1x32x16x64x8x16 : Shape := ⟨6, ![1, 32, 16, 64, 8, 16]⟩
abbrev S24x32x16x64x128 : Shape := ⟨5, ![24, 32, 16, 64, 128]⟩
abbrev S24x32x16x64 : Shape := ⟨4, ![24, 32, 16, 64]⟩
abbrev S24x32x16x64x1 : Shape := ⟨5, ![24, 32, 16, 64, 1]⟩

abbrev nBuf : Space → Nat
  | .hbm => 140
  | .vmem => 0
  | .smem => 0
  | _ => 0

abbrev hbmTy0_0 (i : Nat) : BufTy := match i % 128 with
  | 0 => ⟨S49152x1024, .bf16⟩
  | 1 => ⟨S49152x1024, .bf16⟩
  | 2 => ⟨S49152x1024, .bf16⟩
  | 3 => ⟨S16x15x31, .f32⟩
  | 4 => ⟨S49152x1024, .f32⟩
  | 5 => ⟨S24x32x64x16x64, .f32⟩
  | 6 => ⟨S49152x1024, .f32⟩
  | 7 => ⟨S24x32x64x16x64, .f32⟩
  | 8 => ⟨S49152x1024, .f32⟩
  | 9 => ⟨S24x32x64x16x64, .f32⟩
  | 10 => ⟨S64, .i32⟩
  | 11 => ⟨S_, .i32⟩
  | 12 => ⟨S64, .i32⟩
  | 13 => ⟨S64, .i32⟩
  | 14 => ⟨S_, .i32⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S64x1, .i32⟩
  | 23 => ⟨S16, .i32⟩
  | 24 => ⟨S1x16, .i32⟩
  | 25 => ⟨S64x16, .i32⟩
  | 26 => ⟨S64x16, .i32⟩
  | 27 => ⟨S64x16, .i32⟩
  | 28 => ⟨S64x1, .i32⟩
  | 29 => ⟨S64x16, .i32⟩
  | 30 => ⟨S64x16, .i32⟩
  | 31 => ⟨S_, .i32⟩
  | 32 => ⟨S64x16, .i32⟩
  | 33 => ⟨S64x16, .i32⟩
  | 34 => ⟨S32, .i32⟩
  | 35 => ⟨S_, .i32⟩
  | 36 => ⟨S32, .i32⟩
  | 37 => ⟨S32, .i32⟩
  | 38 => ⟨S_, .i32⟩
  | 39 => ⟨S_, .i32⟩
  | 40 => ⟨S_, .i32⟩
  | 41 => ⟨S32, .i32⟩
  | 42 => ⟨S32, .i32⟩
  | 43 => ⟨S_, .i32⟩
  | 44 => ⟨S32, .i32⟩
  | 45 => ⟨S32, .i32⟩
  | 46 => ⟨S32x1, .i32⟩
  | 47 => ⟨S8, .i32⟩
  | 48 => ⟨S1x8, .i32⟩
  | 49 => ⟨S32x8, .i32⟩
  | 50 => ⟨S32x8, .i32⟩
  | 51 => ⟨S32x8, .i32⟩
  | 52 => ⟨S32x1, .i32⟩
  | 53 => ⟨S32x8, .i32⟩
  | 54 => ⟨S32x8, .i32⟩
  | 55 => ⟨S_, .i32⟩
  | 56 => ⟨S32x8, .i32⟩
  | 57 => ⟨S32x8, .i32⟩
  | 58 => ⟨S_, .i32⟩
  | 59 => ⟨S32x8, .i32⟩
  | 60 => ⟨S32x8, .i1⟩
  | 61 => ⟨S_, .i32⟩
  | 62 => ⟨S32x8, .i32⟩
  | 63 => ⟨S32x8, .i32⟩
  | 64 => ⟨S32x8, .i32⟩
  | 65 => ⟨S32x8x1, .i32⟩
  | 66 => ⟨S24x32x8x64x16x64, .f32⟩
  | 67 => ⟨S_, .i32⟩
  | 68 => ⟨S64x16, .i32⟩
  | 69 => ⟨S64x16, .i1⟩
  | 70 => ⟨S_, .i32⟩
  | 71 => ⟨S64x16, .i32⟩
  | 72 => ⟨S64x16, .i32⟩
  | 73 => ⟨S64x16, .i32⟩
  | 74 => ⟨S64x16x1, .i32⟩
  | 75 => ⟨S24x32x8x64x16x16x64, .f32⟩
  | 76 => ⟨S_, .i32⟩
  | 77 => ⟨S32x8, .i32⟩
  | 78 => ⟨S32x8, .i1⟩
  | 79 => ⟨S_, .i32⟩
  | 80 => ⟨S32x8, .i32⟩
  | 81 => ⟨S32x8, .i32⟩
  | 82 => ⟨S32x8, .i32⟩
  | 83 => ⟨S32x8x1, .i32⟩
  | 84 => ⟨S24x32x8x64x16x64, .f32⟩
  | 85 => ⟨S_, .i32⟩
  | 86 => ⟨S64x16, .i32⟩
  | 87 => ⟨S64x16, .i1⟩
  | 88 => ⟨S_, .i32⟩
  | 89 => ⟨S64x16, .i32⟩
  | 90 => ⟨S64x16, .i32⟩
  | 91 => ⟨S64x16, .i32⟩
  | 92 => ⟨S64x16x1, .i32⟩
  | 93 => ⟨S24x32x8x64x16x16x64, .f32⟩
  | 94 => ⟨S32x8x1x1, .i32⟩
  | 95 => ⟨S1x1x64x16, .i32⟩
  | 96 => ⟨S_, .i32⟩
  | 97 => ⟨S32x8x1x1, .i32⟩
  | 98 => ⟨S32x8x1x1, .i1⟩
  | 99 => ⟨S_, .i32⟩
  | 100 => ⟨S32x8x1x1, .i32⟩
  | 101 => ⟨S32x8x1x1, .i32⟩
  | 102 => ⟨S32x8x1x1, .i32⟩
  | 103 => ⟨S_, .i32⟩
  | 104 => ⟨S1x1x64x16, .i32⟩
  | 105 => ⟨S1x1x64x16, .i1⟩
  | 106 => ⟨S_, .i32⟩
  | 107 => ⟨S1x1x64x16, .i32⟩
  | 108 => ⟨S1x1x64x16, .i32⟩
  | 109 => ⟨S1x1x64x16, .i32⟩
  | 110 => ⟨S32x8x64x16, .i32⟩
  | 111 => ⟨S32x8x64x16, .i32⟩
  | 112 => ⟨S32x8x64x16x1, .i32⟩
  | 113 => ⟨S32x8x64x16x1, .i32⟩
  | 114 => ⟨S32x8x64x16x2, .i32⟩
  | 115 => ⟨S16x32x8x64x16, .f32⟩
  | 116 => ⟨S32x16x64x8x16, .f32⟩
  | 117 => ⟨S24x32x16x64x8x16, .f32⟩
  | 118 => ⟨S1x32x16x64x8x16, .f32⟩
  | 119 => ⟨S24x32x16x64x8x16, .f32⟩
  | 120 => ⟨S24x32x16x64x8x16, .f32⟩
  | 121 => ⟨S24x32x16x64x128, .f32⟩
  | 122 => ⟨S_, .f32⟩
  | 123 => ⟨S24x32x16x64, .f32⟩
  | 124 => ⟨S_, .f32⟩
  | 125 => ⟨S24x32x16x64, .f32⟩
  | 126 => ⟨S24x32x16x64, .f32⟩
  | 127 => ⟨S24x32x16x64x1, .f32⟩
  | _ => ⟨S49152x1024, .bf16⟩

abbrev hbmTy0_1 (i : Nat) : BufTy := match i % 128 with
  | 0 => ⟨S24x32x16x64x128, .f32⟩
  | 1 => ⟨S24x32x16x64x128, .f32⟩
  | 2 => ⟨S24x32x16x64x128, .f32⟩
  | 3 => ⟨S_, .f32⟩
  | 4 => ⟨S24x32x16x64, .f32⟩
  | 5 => ⟨S24x32x16x64x1, .f32⟩
  | 6 => ⟨S24x32x16x64x128, .f32⟩
  | 7 => ⟨S24x32x16x64x128, .f32⟩
  | 8 => ⟨S24x32x16x64x8x16, .f32⟩
  | 9 => ⟨S24x32x64x16x64, .f32⟩
  | 10 => ⟨S49152x1024, .f32⟩
  | 11 => ⟨S49152x1024, .bf16⟩
  | _ => ⟨S49152x1024, .bf16⟩

abbrev hbmTy (i : Nat) : BufTy := match i / 128 with
  | 0 => hbmTy0_0 i
  | 1 => hbmTy0_1 i
  | _ => ⟨S49152x1024, .bf16⟩

abbrev bufTy : (tb : Table) → Fin (tcTables nBuf tb) → BufTy
  | .hbm, ⟨i, _⟩ => hbmTy i
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_c_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]
-- ==== Ffn.lean ====
abbrev S49152x1024 : Shape := ⟨2, ![49152, 1024]⟩
abbrev S49152x16 : Shape := ⟨2, ![49152, 16]⟩
abbrev S16x1024x2048 : Shape := ⟨3, ![16, 1024, 2048]⟩
abbrev S16x2048x1024 : Shape := ⟨3, ![16, 2048, 1024]⟩
abbrev S_ : Shape := ⟨0, ![]⟩
abbrev S49152 : Shape := ⟨1, ![49152]⟩
abbrev S49152x1 : Shape := ⟨2, ![49152, 1]⟩
abbrev S16x49152 : Shape := ⟨2, ![16, 49152]⟩
abbrev S16x32768 : Shape := ⟨2, ![16, 32768]⟩
abbrev S16x4096 : Shape := ⟨2, ![16, 4096]⟩
abbrev S32768x1024 : Shape := ⟨2, ![32768, 1024]⟩
abbrev S16x4096x1 : Shape := ⟨3, ![16, 4096, 1]⟩
abbrev S16x4096x1024 : Shape := ⟨3, ![16, 4096, 1024]⟩
abbrev S16x16384 : Shape := ⟨2, ![16, 16384]⟩
abbrev S16x2048 : Shape := ⟨2, ![16, 2048]⟩
abbrev S16384x1024 : Shape := ⟨2, ![16384, 1024]⟩
abbrev S16x2048x1 : Shape := ⟨3, ![16, 2048, 1]⟩
abbrev S16x6144x1024 : Shape := ⟨3, ![16, 6144, 1024]⟩
abbrev S1x512x1024 : Shape := ⟨3, ![1, 512, 1024]⟩
abbrev S1x1024x2048 : Shape := ⟨3, ![1, 1024, 2048]⟩
abbrev S1x2048x1024 : Shape := ⟨3, ![1, 2048, 1024]⟩
abbrev S512x1024 : Shape := ⟨2, ![512, 1024]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 51
  | .vmem => 10
  | .smem => 0
  | _ => 0

abbrev bufTy : (tb : Table) → Fin (tcTables nBuf tb) → BufTy
  | .hbm, ⟨0, _⟩ => ⟨S49152x1024, .bf16⟩
  | .hbm, ⟨1, _⟩ => ⟨S49152x16, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S16x1024x2048, .bf16⟩
  | .hbm, ⟨6, _⟩ => ⟨S16x1024x2048, .bf16⟩
  | .hbm, ⟨7, _⟩ => ⟨S16x2048x1024, .bf16⟩
  | .hbm, ⟨8, _⟩ => ⟨S_, .f32⟩
  | .hbm, ⟨9, _⟩ => ⟨S49152, .f32⟩
  | .hbm, ⟨10, _⟩ => ⟨S_, .f32⟩
  | .hbm, ⟨11, _⟩ => ⟨S49152, .f32⟩
  | .hbm, ⟨12, _⟩ => ⟨S49152, .f32⟩
  | .hbm, ⟨13, _⟩ => ⟨S49152x1, .f32⟩
  | .hbm, ⟨14, _⟩ => ⟨S49152x16, .f32⟩
  | .hbm, ⟨15, _⟩ => ⟨S49152x16, .f32⟩
  | .hbm, ⟨16, _⟩ => ⟨S49152x16, .f32⟩
  | .hbm, ⟨17, _⟩ => ⟨S_, .f32⟩
  | .hbm, ⟨18, _⟩ => ⟨S49152, .f32⟩
  | .hbm, ⟨19, _⟩ => ⟨S49152x1, .f32⟩
  | .hbm, ⟨20, _⟩ => ⟨S49152x16, .f32⟩
  | .hbm, ⟨21, _⟩ => ⟨S49152x16, .f32⟩
  | .hbm, ⟨22, _⟩ => ⟨S16x49152, .f32⟩
  | .hbm, ⟨23, _⟩ => ⟨S16x32768, .f32⟩
  | .hbm, ⟨24, _⟩ => ⟨S16x4096, .f32⟩
  | .hbm, ⟨25, _⟩ => ⟨S16x4096, .i32⟩
  | .hbm, ⟨26, _⟩ => ⟨S32768x1024, .bf16⟩
  | .hbm, ⟨27, _⟩ => ⟨S_, .i32⟩
  | .hbm, ⟨28, _⟩ => ⟨S16x4096, .i32⟩
  | .hbm, ⟨29, _⟩ => ⟨S16x4096, .i1⟩
  | .hbm, ⟨30, _⟩ => ⟨S_, .i32⟩
  | .hbm, ⟨31, _⟩ => ⟨S16x4096, .i32⟩
  | .hbm, ⟨32, _⟩ => ⟨S16x4096, .i32⟩
  | .hbm, ⟨33, _⟩ => ⟨S16x4096, .i32⟩
  | .hbm, ⟨34, _⟩ => ⟨S16x4096x1, .i32⟩
  | .hbm, ⟨35, _⟩ => ⟨S16x4096x1024, .bf16⟩
  | .hbm, ⟨36, _⟩ => ⟨S16x16384, .f32⟩
  | .hbm, ⟨37, _⟩ => ⟨S16x2048, .f32⟩
  | .hbm, ⟨38, _⟩ => ⟨S16x2048, .i32⟩
  | .hbm, ⟨39, _⟩ => ⟨S16384x1024, .bf16⟩
  | .hbm, ⟨40, _⟩ => ⟨S_, .i32⟩
  | .hbm, ⟨41, _⟩ => ⟨S16x2048, .i32⟩
  | .hbm, ⟨42, _⟩ => ⟨S16x2048, .i1⟩
  | .hbm, ⟨43, _⟩ => ⟨S_, .i32⟩
  | .hbm, ⟨44, _⟩ => ⟨S16x2048, .i32⟩
  | .hbm, ⟨45, _⟩ => ⟨S16x2048, .i32⟩
  | .hbm, ⟨46, _⟩ => ⟨S16x2048, .i32⟩
  | .hbm, ⟨47, _⟩ => ⟨S16x2048x1, .i32⟩
  | .hbm, ⟨48, _⟩ => ⟨S16x2048x1024, .bf16⟩
  | .hbm, ⟨49, _⟩ => ⟨S16x6144x1024, .bf16⟩
  | .hbm, ⟨50, _⟩ => ⟨S16x6144x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x512x1024, .f32⟩
  | .local _ .vmem, ⟨9, _⟩ => ⟨S1x512x1024, .f32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_values_3 : Ref sig .tc := ⟨.hbm, 37, rfl⟩
abbrev main_indices_4 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnRefIdeal.lean ====
abbrev S49152x1024 : Shape := ⟨2, ![49152, 1024]⟩
abbrev S49152x16 : Shape := ⟨2, ![49152, 16]⟩
abbrev S16x1024x2048 : Shape := ⟨3, ![16, 1024, 2048]⟩
abbrev S16x2048x1024 : Shape := ⟨3, ![16, 2048, 1024]⟩
abbrev S32768x1024 : Shape := ⟨2, ![32768, 1024]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S16x32768 : Shape := ⟨2, ![16, 32768]⟩
abbrev S16x4096 : Shape := ⟨2, ![16, 4096]⟩
abbrev S16x4096x1 : Shape := ⟨3, ![16, 4096, 1]⟩
abbrev S16x4096x1024 : Shape := ⟨3, ![16, 4096, 1024]⟩
abbrev S16x4096x2048 : Shape := ⟨3, ![16, 4096, 2048]⟩
abbrev S16384x1024 : Shape := ⟨2, ![16384, 1024]⟩
abbrev S16384x16 : Shape := ⟨2, ![16384, 16]⟩
abbrev S16384 : Shape := ⟨1, ![16384]⟩
abbrev S16384x1 : Shape := ⟨2, ![16384, 1]⟩
abbrev S16x16384 : Shape := ⟨2, ![16, 16384]⟩
abbrev S16x2048 : Shape := ⟨2, ![16, 2048]⟩
abbrev S16x2048x1 : Shape := ⟨3, ![16, 2048, 1]⟩
abbrev S16x2048x2048 : Shape := ⟨3, ![16, 2048, 2048]⟩
abbrev S16x6144x1024 : Shape := ⟨3, ![16, 6144, 1024]⟩

abbrev nBuf : Space → Nat
  | .hbm => 90
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S49152x16, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S32768x1024, .bf16⟩
  | .hbm, ⟨6, _⟩ => ⟨S32768x16, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768x1, .f32⟩
  | .hbm, ⟨13, _⟩ => ⟨S32768x16, .f32⟩
  | .hbm, ⟨14, _⟩ => ⟨S32768x16, .f32⟩
  | .hbm, ⟨15, _⟩ => ⟨S32768x16, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x16, .f32⟩
  | .hbm, ⟨20, _⟩ => ⟨S32768x16, .f32⟩
  | .hbm, ⟨21, _⟩ => ⟨S16x32768, .f32⟩
  | .hbm, ⟨22, _⟩ => ⟨S16x4096, .f32⟩
  | .hbm, ⟨23, _⟩ => ⟨S16x4096, .i32⟩
  | .hbm, ⟨24, _⟩ => ⟨S32768x1024, .f32⟩
  | .hbm, ⟨25, _⟩ => ⟨S_, .i32⟩
  | .hbm, ⟨26, _⟩ => ⟨S16x4096, .i32⟩
  | .hbm, ⟨27, _⟩ => ⟨S16x4096, .i1⟩
  | .hbm, ⟨28, _⟩ => ⟨S_, .i32⟩
  | .hbm, ⟨29, _⟩ => ⟨S16x4096, .i32⟩
  | .hbm, ⟨30, _⟩ => ⟨S16x4096, .i32⟩
  | .hbm, ⟨31, _⟩ => ⟨S16x4096, .i32⟩
  | .hbm, ⟨32, _⟩ => ⟨S16x4096x1, .i32⟩
  | .hbm, ⟨33, _⟩ => ⟨S16x4096x1024, .f32⟩
  | .hbm, ⟨34, _⟩ => ⟨S16x4096x2048, .f32⟩
  | .hbm, ⟨35, _⟩ => ⟨S16x4096x2048, .f32⟩
  | .hbm, ⟨36, _⟩ => ⟨S16x4096x2048, .f32⟩
  | .hbm, ⟨37, _⟩ => ⟨S_, .f32⟩
  | .hbm, ⟨38, _⟩ => ⟨S16x4096x2048, .f32⟩
  | .hbm, ⟨39, _⟩ => ⟨S16x4096x2048, .f32⟩
  | .hbm, ⟨40, _⟩ => ⟨S_, .f32⟩
  | .hbm, ⟨41, _⟩ => ⟨S16x4096x2048, .f32⟩
  | .hbm, ⟨42, _⟩ => ⟨S16x4096x2048, .f32⟩
  | .hbm, ⟨43, _⟩ => ⟨S16x4096x2048, .f32⟩
  | .hbm, ⟨44, _⟩ => ⟨S16x4096x2048, .f32⟩
  | .hbm, ⟨45, _⟩ => ⟨S16x4096x2048, .f32⟩
  | .hbm, ⟨46, _⟩ => ⟨S16x4096x1024, .f32⟩
  | .hbm, ⟨47, _⟩ => ⟨S16384x1024, .bf16⟩
  | .hbm, ⟨48, _⟩ => ⟨S16384x16, .f32⟩
  | .hbm, ⟨49, _⟩ => ⟨S_, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S16384x1, .f32⟩
  | .hbm, ⟨55, _⟩ => ⟨S16384x16, .f32⟩
  | .hbm, ⟨56, _⟩ => ⟨S16384x16, .f32⟩
  | .hbm, ⟨57, _⟩ => ⟨S16384x16, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x16, .f32⟩
  | .hbm, ⟨62, _⟩ => ⟨S16384x16, .f32⟩
  | .hbm, ⟨63, _⟩ => ⟨S16x16384, .f32⟩
  | .hbm, ⟨64, _⟩ => ⟨S16x2048, .f32⟩
  | .hbm, ⟨65, _⟩ => ⟨S16x2048, .i32⟩
  | .hbm, ⟨66, _⟩ => ⟨S16384x1024, .f32⟩
  | .hbm, ⟨67, _⟩ => ⟨S_, .i32⟩
  | .hbm, ⟨68, _⟩ => ⟨S16x2048, .i32⟩
  | .hbm, ⟨69, _⟩ => ⟨S16x2048, .i1⟩
  | .hbm, ⟨70, _⟩ => ⟨S_, .i32⟩
  | .hbm, ⟨71, _⟩ => ⟨S16x2048, .i32⟩
  | .hbm, ⟨72, _⟩ => ⟨S16x2048, .i32⟩
  | .hbm, ⟨73, _⟩ => ⟨S16x2048, .i32⟩
  | .hbm, ⟨74, _⟩ => ⟨S16x2048x1, .i32⟩
  | .hbm, ⟨75, _⟩ => ⟨S16x2048x1024, .f32⟩
  | .hbm, ⟨76, _⟩ => ⟨S16x2048x2048, .f32⟩
  | .hbm, ⟨77, _⟩ => ⟨S16x2048x2048, .f32⟩
  | .hbm, ⟨78, _⟩ => ⟨S16x2048x2048, .f32⟩
  | .hbm, ⟨79, _⟩ => ⟨S_, .f32⟩
  | .hbm, ⟨80, _⟩ => ⟨S16x2048x2048, .f32⟩
  | .hbm, ⟨81, _⟩ => ⟨S16x2048x2048, .f32⟩
  | .hbm, ⟨82, _⟩ => ⟨S_, .f32⟩
  | .hbm, ⟨83, _⟩ => ⟨S16x2048x2048, .f32⟩
  | .hbm, ⟨84, _⟩ => ⟨S16x2048x2048, .f32⟩
  | .hbm, ⟨85, _⟩ => ⟨S16x2048x2048, .f32⟩
  | .hbm, ⟨86, _⟩ => ⟨S16x2048x2048, .f32⟩
  | .hbm, ⟨87, _⟩ => ⟨S16x2048x2048, .f32⟩
  | .hbm, ⟨88, _⟩ => ⟨S16x2048x1024, .f32⟩
  | .hbm, ⟨89, _⟩ => ⟨S16x6144x1024, .f32⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_values_6 : Ref sig .tc := ⟨.hbm, 64, rfl⟩
abbrev main_indices_7 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩

abbrev nD : Nat := 1
abbrev τ : Topo := Topo.v7x

variable {F : FTy → Type} [FloatOps F]
-- ==== Qkv.lean ====
abbrev S49152x1024 : Shape := ⟨2, ![49152, 1024]⟩
abbrev S1024 : Shape := ⟨1, ![1024]⟩
abbrev S1024x3072 : Shape := ⟨2, ![1024, 3072]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S49152x1024, .bf16⟩
  | .hbm, ⟨6, _⟩ => ⟨S49152x1024, .bf16⟩
  | .hbm, ⟨7, _⟩ => ⟨S49152x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRefIdeal.lean ====
abbrev S49152x1024 : Shape := ⟨2, ![49152, 1024]⟩
abbrev S1024 : Shape := ⟨1, ![1024]⟩
abbrev S1024x3072 : Shape := ⟨2, ![1024, 3072]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S49152x3072 : Shape := ⟨2, ![49152, 3072]⟩

abbrev nBuf : Space → Nat
  | .hbm => 29
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024, .f32⟩
  | .hbm, ⟨2, _⟩ => ⟨S1024x3072, .f32⟩
  | .hbm, ⟨3, _⟩ => ⟨S49152x1024, .f32⟩
  | .hbm, ⟨4, _⟩ => ⟨S_, .f32⟩
  | .hbm, ⟨5, _⟩ => ⟨S49152, .f32⟩
  | .hbm, ⟨6, _⟩ => ⟨S49152x1, .f32⟩
  | .hbm, ⟨7, _⟩ => ⟨S_, .f32⟩
  | .hbm, ⟨8, _⟩ => ⟨S49152x1, .f32⟩
  | .hbm, ⟨9, _⟩ => ⟨S49152x1, .f32⟩
  | .hbm, ⟨10, _⟩ => ⟨S_, .f32⟩
  | .hbm, ⟨11, _⟩ => ⟨S49152x1, .f32⟩
  | .hbm, ⟨12, _⟩ => ⟨S49152x1, .f32⟩
  | .hbm, ⟨13, _⟩ => ⟨S49152x1, .f32⟩
  | .hbm, ⟨14, _⟩ => ⟨S49152x1024, .f32⟩
  | .hbm, ⟨15, _⟩ => ⟨S49152x1024, .f32⟩
  | .hbm, ⟨16, _⟩ => ⟨S1x1024, .f32⟩
  | .hbm, ⟨17, _⟩ => ⟨S49152x1024, .f32⟩
  | .hbm, ⟨18, _⟩ => ⟨S49152x1024, .f32⟩
  | .hbm, ⟨19, _⟩ => ⟨S49152x3072, .f32⟩
  | .hbm, ⟨20, _⟩ => ⟨S49152x1024, .f32⟩
  | .hbm, ⟨21, _⟩ => ⟨S49152x1024, .f32⟩
  | .hbm, ⟨22, _⟩ => ⟨S49152x1024, .f32⟩
  | .hbm, ⟨23, _⟩ => ⟨S_, .f32⟩
  | .hbm, ⟨24, _⟩ => ⟨S49152x1024, .f32⟩
  | .hbm, ⟨25, _⟩ => ⟨S49152x1024, .f32⟩
  | .hbm, ⟨26, _⟩ => ⟨S49152x1024, .bf16⟩
  | .hbm, ⟨27, _⟩ => ⟨S49152x1024, .bf16⟩
  | .hbm, ⟨28, _⟩ => ⟨S49152x1024, .bf16⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proj.lean ====
abbrev S49152x1024 : Shape := ⟨2, ![49152, 1024]⟩
abbrev S1024x1024 : Shape := ⟨2, ![1024, 1024]⟩
abbrev S1024 : Shape := ⟨1, ![1024]⟩
abbrev S1024x16 : Shape := ⟨2, ![1024, 16]⟩
abbrev S1x1024 : Shape := ⟨2, ![1, 1024]⟩
abbrev S_ : Shape := ⟨0, ![]⟩
abbrev S1024x128 : Shape := ⟨2, ![1024, 128]⟩
abbrev S49152x128 : Shape := ⟨2, ![49152, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S49152x1024, .bf16⟩
  | .hbm, ⟨1, _⟩ => ⟨S1024x1024, .f32⟩
  | .hbm, ⟨2, _⟩ => ⟨S49152x1024, .f32⟩
  | .hbm, ⟨3, _⟩ => ⟨S1024, .f32⟩
  | .hbm, ⟨4, _⟩ => ⟨S1024x16, .f32⟩
  | .hbm, ⟨5, _⟩ => ⟨S1024x1024, .bf16⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S49152x1024, .f32⟩
  | .hbm, ⟨11, _⟩ => ⟨S49152x1024, .bf16⟩
  | .hbm, ⟨12, _⟩ => ⟨S49152x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x128, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S49152x1024 : Shape := ⟨2, ![49152, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S49152x16 : Shape := ⟨2, ![49152, 16]⟩
abbrev S49152x128 : Shape := ⟨2, ![49152, 128]⟩

abbrev nBuf : Space → Nat
  | .hbm => 29
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S1024x1024, .f32⟩
  | .hbm, ⟨2, _⟩ => ⟨S49152x1024, .f32⟩
  | .hbm, ⟨3, _⟩ => ⟨S1024, .f32⟩
  | .hbm, ⟨4, _⟩ => ⟨S1024x16, .f32⟩
  | .hbm, ⟨5, _⟩ => ⟨S49152x1024, .f32⟩
  | .hbm, ⟨6, _⟩ => ⟨S49152x1024, .f32⟩
  | .hbm, ⟨7, _⟩ => ⟨S49152x1024, .f32⟩
  | .hbm, ⟨8, _⟩ => ⟨S49152x1024, .f32⟩
  | .hbm, ⟨9, _⟩ => ⟨S_, .f32⟩
  | .hbm, ⟨10, _⟩ => ⟨S49152, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S_, .f32⟩
  | .hbm, ⟨16, _⟩ => ⟨S49152x1, .f32⟩
  | .hbm, ⟨17, _⟩ => ⟨S49152x1, .f32⟩
  | .hbm, ⟨18, _⟩ => ⟨S49152x1, .f32⟩
  | .hbm, ⟨19, _⟩ => ⟨S49152x1024, .f32⟩
  | .hbm, ⟨20, _⟩ => ⟨S49152x1024, .f32⟩
  | .hbm, ⟨21, _⟩ => ⟨S1x1024, .f32⟩
  | .hbm, ⟨22, _⟩ => ⟨S49152x1024, .f32⟩
  | .hbm, ⟨23, _⟩ => ⟨S49152x1024, .f32⟩
  | .hbm, ⟨24, _⟩ => ⟨S49152x16, .f32⟩
  | .hbm, ⟨25, _⟩ => ⟨S49152x1024, .bf16⟩
  | .hbm, ⟨26, _⟩ => ⟨S_, .i32⟩
  | .hbm, ⟨27, _⟩ => ⟨S_, .f32⟩
  | .hbm, ⟨28, _⟩ => ⟨S49152x128, .f32⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.AttnTrip.lean ====
/-
  What one trip of the attention kernel's loop stores, as a function of the four input windows: one block of 64 rows.
-/
module

public import proofs.«01_k».proof.Proof.Gen.AttnIdeal.Value
public import Idealize.ShloMosaic.Lib.ValueIdx
public import Idealize.ShloMosaic.Lib.Pipeline.CanonAppend
public import Idealize.ShloMosaic.PureOps.Ideal.Laws

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.ValueIdx
open Idealize.ShloMosaic.Pipeline (Dat)
open scoped BigOperators

/-- The block of rows trip `k` stores, of the four input windows. -/
def tripVal (x0 x1 x2 : Vec Ideal S2048x128 .bf16) (x3 : Vec Ideal S1x2x8x64x512 .f32) (k : Fin k0_t1_loop.trips) : FVec Ideal S64x128 .bf16 :=
  let q : Vec Ideal S64x128 .bf16 := View.ld x0 (Rect.unit (s := S2048x128) (k0_off1 k) S64x128.size (k0_off1_inb k))
  let kb : Vec Ideal S512x128 .bf16 := View.ld x1 (Rect.unit (s := S2048x128) (k0_off2 k) S512x128.size (k0_off2_inb k))
  let vb : Vec Ideal S512x128 .bf16 := View.ld x2 (Rect.unit (s := S2048x128) (k0_off2 k) S512x128.size (k0_off2_inb k))
  let b0 : Vec Ideal S1x1x1x64x512 .f32 := View.ld x3 (Rect.unit (s := S1x2x8x64x512) (k0_off3 k) S1x1x1x64x512.size (k0_off3_inb k))
  let b1 : Vec Ideal S1x1x1x64x512 .f32 := View.ld x3 (Rect.unit (s := S1x2x8x64x512) (k0_off4 k) S1x1x1x64x512.size (k0_off4_inb k))
  k0_pay3 (F := Ideal) vb (k0_pay5 k0_pay1 q kb vb b0) (k0_pay6 k0_pay2 q kb) b1

theorem trip_eq (𝒱 : Variants) (c : Dev nD) (bd : Option 𝒱.V) (i : grid0.Coords)
    (arg2 : Memref sig .tc .vmem S2048x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S1x2x8x64x512 .f32) (harg5 : arg5.IsWhole)
    (arg6 : Memref sig .tc .vmem S2048x128 .bf16) (harg6 : arg6.IsWhole)
    (x0 x1 x2 : Vec Ideal S2048x128 .bf16) (x3 : Vec Ideal S1x2x8x64x512 .f32) (k : Fin k0_t1_loop.trips) :
    tripL_k0_t1 (F := Ideal) 𝒱 c bd i arg2 harg2 arg3 harg3 arg4 harg4 arg5 harg5 arg6 harg6
        (harg2.unread x0) (harg3.unread x1) (harg4.unread x2) (harg5.unread x3) k
      = [⟨Rect.unit (s := S2048x128) (k0_off1 k) S64x128.size (k0_off1_inb k), tripVal x0 x1 x2 x3 k⟩] := by
  unfold tripL_k0_t1 trip_k0_t1
  dsimp only
  sl_unfold_words
  simp only [View.readAt_eq_ld, harg2.read_unread, harg3.read_unread, harg4.read_unread, harg5.read_unread]
  rfl

theorem trips_eq : k0_t1_loop.trips = 32 := by decide

/-- The first token row of the band of eight rows that row `k` attends to. -/
def r0 (k : Nat) : Nat := min (k - 4) 24

theorem off1_eq : ∀ k : Fin k0_t1_loop.trips, k0_off1 k 0 = 64 * k.val ∧ k0_off1 k 1 = 0 := by decide +kernel
theorem off2_eq : ∀ k : Fin k0_t1_loop.trips, k0_off2 k 0 = 64 * r0 k.val ∧ k0_off2 k 1 = 0 := by decide +kernel
theorem off3_eq : ∀ k : Fin k0_t1_loop.trips, k0_off3 k 0 = 0 ∧ k0_off3 k 1 = 0 ∧ k0_off3 k 2 = k.val - r0 k.val ∧ k0_off3 k 3 = 0 ∧ k0_off3 k 4 = 0 := by
  decide +kernel
theorem off4_eq : ∀ k : Fin k0_t1_loop.trips, k0_off4 k 0 = 0 ∧ k0_off4 k 1 = 1 ∧ k0_off4 k 2 = k.val - r0 k.val ∧ k0_off4 k 3 = 0 ∧ k0_off4 k 4 = 0 := by
  decide +kernel

section
variable (c : Dev nD) (i : grid0.Coords)
    (arg2 : Memref sig .tc .vmem S2048x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S1x2x8x64x512 .f32) (harg5 : arg5.IsWhole)
    (arg6 : Memref sig .tc .vmem S2048x128 .bf16) (harg6 : arg6.IsWhole)
    (x0 x1 x2 : Vec Ideal S2048x128 .bf16) (x3 : Vec Ideal S1x2x8x64x512 .f32)

/-- The piece trip `k` stores. -/
abbrev piece (x0 x1 x2 : Vec Ideal S2048x128 .bf16) (x3 : Vec Ideal S1x2x8x64x512 .f32) (k : Fin k0_t1_loop.trips) :
    View.Piece (Elt Ideal) S2048x128 .bf16 :=
  ⟨Rect.unit (s := S2048x128) (k0_off1 k) S64x128.size (k0_off1_inb k), tripVal x0 x1 x2 x3 k⟩

/-- The pieces of the trips before `n` are those trips' pieces, and no others. -/
theorem mem_pb (𝒱 : Variants) (bd : Option 𝒱.V) (p : View.Piece (Elt Ideal) S2048x128 .bf16) : ∀ n, n ≤ k0_t1_loop.trips →
    (p ∈ pb_k0_t1 (F := Ideal) 𝒱 c bd i arg2 harg2 arg3 harg3 arg4 harg4 arg5 harg5 arg6 harg6
        (harg2.unread x0) (harg3.unread x1) (harg4.unread x2) (harg5.unread x3) n
      ↔ ∃ k : Fin k0_t1_loop.trips, k.val < n ∧ p = piece x0 x1 x2 x3 k)
  | 0, _ => by
    rw [pb_k0_t1.eq_1]
    simp
  | n + 1, hn => by
    have ih := mem_pb 𝒱 bd p n (by omega)
    have hs := pb_k0_t1_succ (F := Ideal) 𝒱 c bd i arg2 harg2 arg3 harg3 arg4 harg4 arg5 harg5 arg6 harg6
        (harg2.unread x0) (harg3.unread x1) (harg4.unread x2) (harg5.unread x3) ⟨n, hn⟩
    dsimp only at hs
    rw [hs, trip_eq, List.mem_append, ih, List.mem_singleton]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with h' | h'
      · exact Or.inr ⟨k, h', h⟩
      · exact Or.inl (h.trans (congrArg _ (Fin.ext h')))

/-- The output block of the four input windows: row `64 k + r` is row `r` of what trip `k` stores. -/
def blockVal (y : S2048x128.Idx) : EReal :=
  tripVal x0 x1 x2 x3 ⟨(y 0).val / 64, by have h : (y 0).val < 2048 := (y 0).isLt; rw [trips_eq]; omega⟩
    (ix2 (n0 := 64) (n1 := 128) ⟨(y 0).val % 64, Nat.mod_lt _ (by decide)⟩ (y 1))

theorem blockVal_at (y : S2048x128.Idx) (k : Fin k0_t1_loop.trips) (r : Fin 64) (j : Fin 128) (h0 : (y 0).val = 64 * k.val + r.val)
    (h1 : (y 1).val = j.val) : blockVal x0 x1 x2 x3 y = tripVal x0 x1 x2 x3 k (ix2 r j) := by
  unfold blockVal
  congr 1
  · exact Fin.ext (by show (y 0).val / 64 = k.val; omega)
  · funext a
    match a with
    | ⟨0, _⟩ => exact Fin.ext (by show (y 0).val % 64 = r.val; omega)
    | ⟨1, _⟩ => exact Fin.ext h1

theorem out_eq (y : S2048x128.Idx) :
    out0_A_4 (F := Ideal) c i arg2 harg2 arg3 harg3 arg4 harg4 arg5 harg5 arg6 harg6 x0 x1 x2 x3 y = blockVal x0 x1 x2 x3 y := by
  unfold out0_A_4
  rw [View.read_writes_junk_eq_canon]
  have e : (kernelRun0_A (F := Ideal) c i arg2 harg2 arg3 harg3 arg4 harg4 arg5 harg5 arg6 harg6 x0 x1 x2 x3).1
      = pb_k0_t1 (F := Ideal) Variants.none c none i arg2 harg2 arg3 harg3 arg4 harg4 arg5 harg5 arg6 harg6
        (harg2.unread x0) (harg3.unread x1) (harg4.unread x2) (harg5.unread x3) k0_t1_loop.trips := by
    unfold kernelRun0_A
    first | rfl | (dsimp only; sl_unfold_words; rfl)
  rw [e]
  have hm := fun p => mem_pb c i arg2 harg2 arg3 harg3 arg4 harg4 arg5 harg5 arg6 harg6 x0 x1 x2 x3 Variants.none none p _ (le_refl _)
  refine (congrFun (congrArg View.canon (List.append_nil _).symm) y).trans
    (View.canon_append_of_pieces (Val := Elt Ideal) (S := S2048x128) (e := .bf16) (blockVal x0 x1 x2 x3) [] _ ?_ y ?_)
  · intro p hp x
    obtain ⟨k, -, rfl⟩ := (hm p).mp hp
    obtain ⟨r, j, rfl⟩ : ∃ (r : Fin 64) (j : Fin 128), x = ix2 r j := ⟨_, _, eq_ix2 x⟩
    obtain ⟨h0, h1⟩ := off1_eq k
    refine (blockVal_at x0 x1 x2 x3 _ k r j ?_ ?_).symm
    · show k0_off1 k 0 + 1 * r.val = _; omega
    · show k0_off1 k 1 + 1 * j.val = _; omega
  · have h0 : (y 0).val < 2048 := (y 0).isLt
    have h1 : (y 1).val < 128 := (y 1).isLt
    refine ⟨_, (hm _).mpr ⟨⟨(y 0).val / 64, by rw [trips_eq]; omega⟩, Fin.isLt _, rfl⟩, ?_⟩
    obtain ⟨g0, g1⟩ := off1_eq ⟨(y 0).val / 64, by rw [trips_eq]; omega⟩
    rw [Rect.mem_set_unit]
    dsimp only at g0
    intro a
    match a with
    | ⟨0, _⟩ => show k0_off1 _ 0 ≤ (y 0).val ∧ (y 0).val < k0_off1 _ 0 + 64; omega
    | ⟨1, _⟩ => show k0_off1 _ 1 ≤ (y 1).val ∧ (y 1).val < k0_off1 _ 1 + 128; omega
end

end Cert.AttnProof

end
-- ==== Proof.AttnMath.lean ====
/-
  Softmax over the extended reals: the row maximum, the weighted mean with the division after the sum, and the two
  facts the attention needs: keys outside a window that score minus infinity drop out, and with finite scores the
  division may come before the sum.
-/
module

public import Idealize.ShloMosaic.Lib.ValueIdx
public import Idealize.ShloMosaic.PureOps.Ideal.Laws

@[expose] public section

noncomputable section

namespace Cert.AttnMath

open Idealize.ShloMosaic
open scoped BigOperators

/-- The largest of finitely many scores, minus infinity of none. -/
def mx {n : Nat} (s : Fin n → EReal) : EReal := Finset.univ.fold max ⊥ s

/-- The sum of the exponentials of the scores less their maximum. -/
def den {n : Nat} (s : Fin n → EReal) : EReal := ∑ k, Ideal.exp (s k - mx s)

/-- The mean of the values weighted by the exponentials of the scores, the division after the sum. -/
def smR {n : Nat} (s v : Fin n → EReal) : EReal := Ideal.div (∑ k, Ideal.exp (s k - mx s) * v k) (den s)

theorem mx_eq_sup {n : Nat} (s : Fin n → EReal) : mx s = Finset.univ.sup s := rfl

/-- The maximum of finite scores is finite. -/
theorem mx_real {n : Nat} (hn : 0 < n) (s : Fin n → EReal) (hs : ∀ k, ∃ b : ℝ, s k = b) : ∃ b : ℝ, mx s = b := by
  have : Nonempty (Fin n) := ⟨⟨0, hn⟩⟩
  obtain ⟨k, -, hk⟩ := Finset.exists_mem_eq_sup (Finset.univ : Finset (Fin n)) Finset.univ_nonempty s
  obtain ⟨b, hb⟩ := hs k
  exact ⟨b, by rw [mx_eq_sup, hk, hb]⟩

/-- Sums of finite numbers. -/
theorem coe_sum {ι : Type} (t : Finset ι) (f : ι → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- With finite scores the sum of the exponentials is a positive number. -/
theorem den_real {n : Nat} (hn : 0 < n) (s : Fin n → EReal) (hs : ∀ k, ∃ b : ℝ, s k = b) : ∃ b : ℝ, 0 < b ∧ den s = b := by
  obtain ⟨M, hM⟩ := mx_real hn s hs
  choose b hb using hs
  have : Nonempty (Fin n) := ⟨⟨0, hn⟩⟩
  refine ⟨∑ k, Real.exp (b k - M), Finset.sum_pos (fun k _ => Real.exp_pos _) Finset.univ_nonempty, ?_⟩
  unfold den
  rw [← coe_sum]
  refine Finset.sum_congr rfl fun k _ => ?_
  rw [hM, hb, ← EReal.coe_sub]
  rfl

/-- A factor that is a nonnegative number goes into a sum. -/
theorem sum_mul_coe {ι : Type} (t : Finset ι) (f : ι → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- Keys outside a window score minus infinity, those inside a finite number: the weighted mean over all keys is the sum over
    the window of the normalised weights times the values. -/
theorem smR_window {n N : Nat} (hn : 0 < n) (ι : Fin n → Fin N) (hι : Function.Injective ι) (s v : Fin N → EReal) (t : Fin n → EReal)
    (hin : ∀ w, s (ι w) = t w) (hout : ∀ k, k ∉ Set.range ι → s k = ⊥) (ht : ∀ w, ∃ b : ℝ, t w = b) :
    smR s v = ∑ w, Ideal.div (Ideal.exp (t w - mx t)) (den t) * v (ι w) := by
  have hM : mx s = mx t := by
    rw [mx_eq_sup, mx_eq_sup]
    refine le_antisymm (Finset.sup_le fun k _ => ?_) (Finset.sup_le fun w _ => ?_)
    · by_cases hk : k ∈ Set.range ι
      · obtain ⟨w, rfl⟩ := hk
        rw [hin]
        exact Finset.le_sup (Finset.mem_univ w)
      · rw [hout k hk]; exact bot_le
    · rw [← hin]
      exact Finset.le_sup (Finset.mem_univ (ι w))
  have h0 : ∀ k, k ∉ Set.range ι → Ideal.exp (s k - mx s) = 0 := fun k hk => by
    rw [hout k hk, EReal.bot_sub]
    rfl
  have hnum : ∑ k, Ideal.exp (s k - mx s) * v k = ∑ w, Ideal.exp (t w - mx t) * v (ι w) :=
    (Fintype.sum_of_injective ι hι _ _ (fun k hk => by rw [h0 k hk, zero_mul]) fun w => by rw [hin, hM]).symm
  have hden : den s = den t :=
    (Fintype.sum_of_injective ι hι _ _ (fun k hk => h0 k hk) fun w => by rw [hin, hM]).symm
  obtain ⟨L, hL, eL⟩ := den_real hn t ht
  have hne : (L : EReal) ≠ 0 := by exact_mod_cast hL.ne'
  unfold smR
  rw [hnum, hden, eL]
  simp only [Ideal.div, if_neg hne]
  rw [← EReal.coe_inv, sum_mul_coe _ _ _ (inv_nonneg.mpr hL.le)]
  exact Finset.sum_congr rfl fun w _ => by rw [mul_right_comm]

end Cert.AttnMath

end
-- ==== Proof.AttnTile.lean ====
/-
  One trip's block as numbers: at row `r` and lane `64 hh + d`, the softmax mean of head `hh`'s values over the 512 keys
  of the band, scored by the head's 64 lanes and the bias.
-/
module

public import proofs.«01_k».proof.Proof.AttnTrip
public import proofs.«01_k».proof.Proof.AttnMath
public import Idealize.ShloMosaic.Lib.MatmulPlain

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.ValueIdx
open Cert.AttnMath
open scoped BigOperators

/-- The pattern of minus infinity is minus infinity. -/
theorem ofBits_bot : (FloatOps.ofBits (F := Ideal) .f32 0xFF800000#32 : EReal) = ⊥ := by
  simp [Ideal.ofBits, Ideal.ieee]

/-- A head's exponentials of its scores. -/
def headExp (S : FVec Ideal S64x512 .f32) : FVec Ideal S64x512 .f32 :=
  exp (subf S (broadcastTo S64x512
    (shapeCast S64x1 (multiReduction .maximumf [1] S64 S 0xFF800000#32 reduces_S64x512_S64 (.inl rfl) rfl) shapeCasts_S64_S64x1) broadcasts_S64x1_S64x512))

/-- A head's output of its scores and values. -/
def headOut (S : FVec Ideal S64x512 .f32) (vb : FVec Ideal S512x128 .bf16) : FVec Ideal S64x128 .f32 :=
  divf (matmul dot_S64x512_S512x128_S64x128_1_0_0_1_n_n none (truncf .bf16 (headExp S) bitsLt_bf16_f32) vb (constant S64x128 .f32 0x00000000#32))
    (broadcastTo S64x128 (shapeCast S64x1 (multiReduction .add [1] S64 (headExp S) 0x00000000#32 reduces_S64x512_S64 (.inl rfl) rfl) shapeCasts_S64_S64x1)
      broadcasts_S64x1_S64x128)

theorem lift_eq (r : Fin 64) (k : Fin 512) : reduces_S64x512_S64.lift (ix1 r) k = (ix2 r k : S64x512.Idx) := by
  funext a
  match a with
  | ⟨0, _⟩ => exact Fin.ext rfl
  | ⟨1, _⟩ => exact Fin.ext rfl

theorem col_apply (y : FVec Ideal S64 .f32) (r : Fin 64) : shapeCast S64x1 y shapeCasts_S64_S64x1 (ix2 r (0 : Fin 1)) = y (ix1 r) := by
  refine shapeCast_apply _ _ _ (ix1 r) ?_
  rw [Shape.rowMajor_val_one, Shape.rowMajor_val_two]
  show r.val = r.val * 1 + 0
  omega

theorem headOut_apply (S : FVec Ideal S64x512 .f32) (vb : FVec Ideal S512x128 .bf16) (r : Fin 64) (j : Fin 128) :
    headOut S vb (ix2 r j) = smR (fun kk : Fin 512 => S (ix2 r kk)) (fun kk => vb (ix2 kk j)) := by
  have hmax : multiReduction .maximumf [1] S64 S 0xFF800000#32 reduces_S64x512_S64 (.inl rfl) rfl (ix1 r) = mx (fun kk : Fin 512 => S (ix2 r kk)) := by
    refine (Ideal.multiReduction_maximumf_single _ _ reduces_S64x512_S64 (.inl rfl) rfl (ix1 r)).trans ?_
    exact congrArg₂ (fun (b : EReal) (f : Fin 512 → EReal) => Finset.univ.fold max b f) ofBits_bot (funext fun k => congrArg S (lift_eq r k))
  have hbm : ∀ y : FVec Ideal S64x1 .f32, ∀ kk : Fin 512, broadcastTo S64x512 y broadcasts_S64x1_S64x512 (ix2 r kk) = y (ix2 r (0 : Fin 1)) := fun y kk =>
    broadcastTo_apply y broadcasts_S64x1_S64x512 _ _ fun a => match a with
      | ⟨0, _⟩ => (if_neg (show ¬ (64 : Nat) = 1 by decide)).symm
      | ⟨1, _⟩ => (if_pos rfl).symm
  have hbo : ∀ y : FVec Ideal S64x1 .f32, broadcastTo S64x128 y broadcasts_S64x1_S64x128 (ix2 r j) = y (ix2 r (0 : Fin 1)) := fun y =>
    broadcastTo_apply y broadcasts_S64x1_S64x128 _ _ fun a => match a with
      | ⟨0, _⟩ => (if_neg (show ¬ (64 : Nat) = 1 by decide)).symm
      | ⟨1, _⟩ => (if_pos rfl).symm
  have hp : dot_S64x512_S512x128_S64x128_1_0_0_1_n_n = DotDims.plain 64 512 128 := rfl
  unfold headOut
  have he : ∀ kk : Fin 512, headExp S (ix2 r kk) = Ideal.exp (S (ix2 r kk) - mx (fun kk : Fin 512 => S (ix2 r kk))) := fun kk => by
    show Ideal.exp (S (ix2 r kk) - _) = _
    rw [hbm, col_apply, hmax]
  dsimp only [matmul]
  rw [hp]
  show Ideal.div _ _ = _
  rw [hbo, col_apply]
  refine congrArg₂ Ideal.div ?_ ?_
  · refine (Ideal.matmul_plain_apply _ _ _ _ _ _).trans ?_
    rw [constant_apply, Ideal.ofBits_zero_f32, zero_add]
    exact Finset.sum_congr rfl fun kk _ => congrArg (· * vb (ix2 kk j)) (he kk)
  · refine (Ideal.multiReduction_add_single _ _ reduces_S64x512_S64 (.inl rfl) rfl (ix1 r)).trans (Finset.sum_congr rfl fun kk _ => ?_)
    exact (congrArg (headExp S) (lift_eq r kk)).trans (he kk)

/-- The two heads' lane masks. -/
theorem mask0 : ∀ l : Fin 128, k0_pay1 (F := Ideal) (ix2 (0 : Fin 1) l) = if l.val < 64 then (1 : EReal) else 0 := by
  have h : ∀ l : Fin 128, ((extui 32 (cmpi .slt (iota .tc S1x128 32 [1] iota_S1x128_d1_w32) (broadcast S1x128 64#32)) natLt_1_32 : IVec S1x128 32)
      (ix2 (0 : Fin 1) l)).toInt = if l.val < 64 then 1 else 0 := by decide +kernel
  intro l
  show (((_ : ℤ) : ℝ) : EReal) = _
  rw [h l]
  split <;> simp
theorem mask1 : ∀ l : Fin 128, k0_pay2 (F := Ideal) (ix2 (0 : Fin 1) l) = if l.val < 64 then (0 : EReal) else 1 := by
  have h : ∀ l : Fin 128, ((extui 32 (cmpi .sge (iota .tc S1x128 32 [1] iota_S1x128_d1_w32) (broadcast S1x128 64#32)) natLt_1_32 : IVec S1x128 32)
      (ix2 (0 : Fin 1) l)).toInt = if l.val < 64 then 0 else 1 := by decide +kernel
  intro l
  show (((_ : ℤ) : ℝ) : EReal) = _
  rw [h l]
  split <;> simp

/-- The scores before the bias: the masked queries times the keys. -/
def rawS (msk : FVec Ideal S1x128 .f32) (q : FVec Ideal S64x128 .bf16) (kb : FVec Ideal S512x128 .bf16) : FVec Ideal S64x512 .f32 :=
  matmul dot_S64x128_S512x128_S64x512_1_1_0_0_n_n none
    (truncf .bf16 (mulf (extf .f32 q bitsLt_bf16_f32) (broadcastTo S64x128 msk broadcasts_S1x128_S64x128)) bitsLt_bf16_f32) kb (constant S64x512 .f32 0x00000000#32)

theorem rawS_apply (msk : FVec Ideal S1x128 .f32) (q : FVec Ideal S64x128 .bf16) (kb : FVec Ideal S512x128 .bf16) (r : Fin 64) (kk : Fin 512) :
    rawS msk q kb (ix2 r kk) = ∑ l : Fin 128, q (ix2 r l) * msk (ix2 (0 : Fin 1) l) * kb (ix2 kk l) := by
  have hb : ∀ l : Fin 128, broadcastTo S64x128 msk broadcasts_S1x128_S64x128 (ix2 r l) = msk (ix2 (0 : Fin 1) l) := fun l =>
    broadcastTo_apply msk broadcasts_S1x128_S64x128 _ _ fun a => match a with
      | ⟨0, _⟩ => (if_pos rfl).symm
      | ⟨1, _⟩ => (if_neg (show ¬ (128 : Nat) = 1 by decide)).symm
  have hp : dot_S64x128_S512x128_S64x512_1_1_0_0_n_n = DotDims.transposedRhs 64 128 512 := rfl
  unfold rawS
  dsimp only [matmul]
  rw [hp]
  refine (Ideal.matmul_transposedRhs_apply _ _ _ _ _ _).trans ?_
  rw [constant_apply, Ideal.ofBits_zero_f32, zero_add]
  exact Finset.sum_congr rfl fun l _ => congrArg (fun z => q (ix2 r l) * z * kb (ix2 kk l)) (hb l)

/-- A masked sum over 128 lanes is the sum over the head's 64. -/
theorem sum_half0 (f g : Fin 128 → EReal) (m : Fin 128 → EReal) (hm : ∀ l, m l = if l.val < 64 then 1 else 0) :
    ∑ l, f l * m l * g l = ∑ d : Fin 64, f ⟨d.val, by omega⟩ * g ⟨d.val, by omega⟩ := by
  refine (Fin.sum_univ_add (a := 64) (b := 64) fun l => f l * m l * g l).trans ?_
  have h2 : ∑ d : Fin 64, f (Fin.natAdd 64 d) * m (Fin.natAdd 64 d) * g (Fin.natAdd 64 d) = 0 :=
    Finset.sum_eq_zero fun d _ => by
      rw [hm, if_neg (by simp), mul_zero, zero_mul]
  rw [h2, add_zero]
  refine Finset.sum_congr rfl fun d _ => ?_
  rw [hm, if_pos (by simp), mul_one]
  rfl
theorem sum_half1 (f g : Fin 128 → EReal) (m : Fin 128 → EReal) (hm : ∀ l, m l = if l.val < 64 then 0 else 1) :
    ∑ l, f l * m l * g l = ∑ d : Fin 64, f ⟨64 + d.val, by omega⟩ * g ⟨64 + d.val, by omega⟩ := by
  refine (Fin.sum_univ_add (a := 64) (b := 64) fun l => f l * m l * g l).trans ?_
  have h2 : ∑ d : Fin 64, f (Fin.castAdd 64 d) * m (Fin.castAdd 64 d) * g (Fin.castAdd 64 d) = 0 :=
    Finset.sum_eq_zero fun d _ => by
      rw [hm, if_pos (by simp), mul_zero, zero_mul]
  rw [h2, zero_add]
  refine Finset.sum_congr rfl fun d _ => ?_
  rw [hm, if_neg (by simp), mul_one]
  rfl

theorem bias_cast (b : Vec Ideal S1x1x1x64x512 .f32) (r : Fin 64) (kk : Fin 512) :
    shapeCast S64x512 b shapeCasts_S1x1x1x64x512_S64x512 (ix2 r kk) = b (ix5 (0 : Fin 1) (0 : Fin 1) (0 : Fin 1) r kk) := by
  refine shapeCast_apply _ _ _ _ ?_
  rw [Shape.rowMajor_val_five, Shape.rowMajor_val_two]
  show (((0 * 1 + 0) * 1 + 0) * 64 + r.val) * 512 + kk.val = r.val * 512 + kk.val
  omega

theorem pay5_eq (msk : FVec Ideal S1x128 .f32) (q : Vec Ideal S64x128 .bf16) (kb vb : Vec Ideal S512x128 .bf16) (b : Vec Ideal S1x1x1x64x512 .f32) :
    k0_pay5 (F := Ideal) msk q kb vb b = headOut (addf (rawS msk q kb) (shapeCast S64x512 b shapeCasts_S1x1x1x64x512_S64x512)) vb := rfl
theorem pay3_eq (msk : FVec Ideal S1x128 .f32) (o : FVec Ideal S64x128 .f32) (q : Vec Ideal S64x128 .bf16) (kb vb : Vec Ideal S512x128 .bf16)
    (b : Vec Ideal S1x1x1x64x512 .f32) (r : Fin 64) (j : Fin 128) :
    k0_pay3 (F := Ideal) vb o (k0_pay6 msk q kb) b (ix2 r j) = if j.val < 64 then o (ix2 r j)
      else headOut (addf (rawS msk q kb) (shapeCast S64x512 b shapeCasts_S1x1x1x64x512_S64x512)) vb (ix2 r j) := by
  have h : ∀ j : Fin 128, (cmpi .slt (iota .tc S64x128 32 [1] iota_S64x128_d1_w32) (broadcast S64x128 64#32) : IVec S64x128 1) (ix2 r j)
      = if j.val < 64 then 1#1 else 0#1 := by
    revert r
    decide +kernel
  show (if (cmpi .slt (iota .tc S64x128 32 [1] iota_S64x128_d1_w32) (broadcast S64x128 64#32) : IVec S64x128 1) (ix2 r j) = 1#1 then _ else _) = _
  rw [h j]
  by_cases hj : j.val < 64
  · simp only [if_pos hj]; rfl
  · simp only [if_neg hj]; rfl

end Cert.AttnProof

end
-- ==== Proof.AttnKernel.lean ====
/-
  The attention kernel's result array as a function of its operand arrays: at token row `64 k + r` of sequence `b` and
  channel `d` of head `h`, the softmax mean over the 512 keys of the row's band.
-/
module

public import proofs.«01_k».proof.Proof.AttnTile

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.ValueIdx
open Idealize.ShloMosaic.Pipeline (Dat)
open Cert.AttnMath
open scoped BigOperators

theorem r0_le (k : Nat) : r0 k ≤ 24 := Nat.min_le_right _ _
theorem r0_le_self (k : Nat) : r0 k ≤ k := by unfold r0; omega
theorem sub_r0_lt (k : Nat) (hk : k < 32) : k - r0 k < 8 := by unfold r0; omega

/-- Key `kk` of row `k`'s band, as a row of the sequence's block. -/
abbrev keyRow (k : Fin 32) (kk : Fin 512) : Fin 2048 := ⟨64 * r0 k.val + kk.val, by have := r0_le k.val; omega⟩
abbrev qRow (k : Fin 32) (r : Fin 64) : Fin 2048 := ⟨64 * k.val + r.val, by omega⟩
abbrev lane (hh : Fin 2) (d : Fin 64) : Fin 128 := ⟨64 * hh.val + d.val, by omega⟩
abbrev dlt (k : Fin 32) : Fin 8 := ⟨k.val - r0 k.val, sub_r0_lt k.val k.isLt⟩

section
variable (x0 x1 x2 : Vec Ideal S2048x128 .bf16) (x3 : Vec Ideal S1x2x8x64x512 .f32)

theorem ld_q (x : Vec Ideal S2048x128 .bf16) (k : Fin k0_t1_loop.trips) (k' : Fin 32) (hk : k'.val = k.val) (r : Fin 64) (l : Fin 128) :
    View.ld x (Rect.unit (s := S2048x128) (k0_off1 k) S64x128.size (k0_off1_inb k)) (ix2 r l) = x (ix2 (n0 := 2048) (n1 := 128) (qRow k' r) l) := by
  obtain ⟨h0, h1⟩ := off1_eq k
  show x _ = x _
  refine congrArg x (funext fun a => Fin.ext ?_)
  match a with
  | ⟨0, _⟩ => show k0_off1 k 0 + 1 * r.val = 64 * k'.val + r.val; omega
  | ⟨1, _⟩ => show k0_off1 k 1 + 1 * l.val = l.val; omega
theorem ld_k (x : Vec Ideal S2048x128 .bf16) (k : Fin k0_t1_loop.trips) (k' : Fin 32) (hk : k'.val = k.val) (kk : Fin 512) (l : Fin 128) :
    View.ld x (Rect.unit (s := S2048x128) (k0_off2 k) S512x128.size (k0_off2_inb k)) (ix2 kk l) = x (ix2 (n0 := 2048) (n1 := 128) (keyRow k' kk) l) := by
  obtain ⟨h0, h1⟩ := off2_eq k
  rw [← hk] at h0
  show x _ = x _
  refine congrArg x (funext fun a => Fin.ext ?_)
  match a with
  | ⟨0, _⟩ => show k0_off2 k 0 + 1 * kk.val = 64 * r0 k'.val + kk.val; omega
  | ⟨1, _⟩ => show k0_off2 k 1 + 1 * l.val = l.val; omega
theorem ld_b0 (x : Vec Ideal S1x2x8x64x512 .f32) (k : Fin k0_t1_loop.trips) (k' : Fin 32) (hk : k'.val = k.val) (r : Fin 64) (kk : Fin 512) :
    View.ld x (Rect.unit (s := S1x2x8x64x512) (k0_off3 k) S1x1x1x64x512.size (k0_off3_inb k)) (ix5 (0 : Fin 1) (0 : Fin 1) (0 : Fin 1) r kk)
      = x (ix5 (n0 := 1) (n1 := 2) (n2 := 8) (n3 := 64) (n4 := 512) 0 0 (dlt k') r kk) := by
  obtain ⟨h0, h1, h2, h3, h4⟩ := off3_eq k
  rw [← hk] at h2
  show x _ = x _
  refine congrArg x (funext fun a => Fin.ext ?_)
  match a with
  | ⟨0, _⟩ => show k0_off3 k 0 + 1 * 0 = 0; omega
  | ⟨1, _⟩ => show k0_off3 k 1 + 1 * 0 = 0; omega
  | ⟨2, _⟩ => show k0_off3 k 2 + 1 * 0 = k'.val - r0 k'.val; omega
  | ⟨3, _⟩ => show k0_off3 k 3 + 1 * r.val = r.val; omega
  | ⟨4, _⟩ => show k0_off3 k 4 + 1 * kk.val = kk.val; omega
theorem ld_b1 (x : Vec Ideal S1x2x8x64x512 .f32) (k : Fin k0_t1_loop.trips) (k' : Fin 32) (hk : k'.val = k.val) (r : Fin 64) (kk : Fin 512) :
    View.ld x (Rect.unit (s := S1x2x8x64x512) (k0_off4 k) S1x1x1x64x512.size (k0_off4_inb k)) (ix5 (0 : Fin 1) (0 : Fin 1) (0 : Fin 1) r kk)
      = x (ix5 (n0 := 1) (n1 := 2) (n2 := 8) (n3 := 64) (n4 := 512) 0 1 (dlt k') r kk) := by
  obtain ⟨h0, h1, h2, h3, h4⟩ := off4_eq k
  rw [← hk] at h2
  show x _ = x _
  refine congrArg x (funext fun a => Fin.ext ?_)
  match a with
  | ⟨0, _⟩ => show k0_off4 k 0 + 1 * 0 = 0; omega
  | ⟨1, _⟩ => show k0_off4 k 1 + 1 * 0 = 1; omega
  | ⟨2, _⟩ => show k0_off4 k 2 + 1 * 0 = k'.val - r0 k'.val; omega
  | ⟨3, _⟩ => show k0_off4 k 3 + 1 * r.val = r.val; omega
  | ⟨4, _⟩ => show k0_off4 k 4 + 1 * kk.val = kk.val; omega

/-- One head's output of the blocks: the softmax mean over the band. -/
def headVal (k : Fin 32) (r : Fin 64) (hh : Fin 2) (d : Fin 64) : EReal :=
  smR (fun kk : Fin 512 => (∑ d' : Fin 64, x0 (ix2 (n0 := 2048) (n1 := 128) (qRow k r) (lane hh d')) * x1 (ix2 (n0 := 2048) (n1 := 128) (keyRow k kk) (lane hh d')))
      + x3 (ix5 (n0 := 1) (n1 := 2) (n2 := 8) (n3 := 64) (n4 := 512) 0 hh (dlt k) r kk))
    (fun kk => x2 (ix2 (n0 := 2048) (n1 := 128) (keyRow k kk) (lane hh d)))

theorem tripVal_apply (k : Fin k0_t1_loop.trips) (k' : Fin 32) (hk : k'.val = k.val) (r : Fin 64) (hh : Fin 2) (d : Fin 64) :
    tripVal x0 x1 x2 x3 k (ix2 r (lane hh d)) = headVal x0 x1 x2 x3 k' r hh d := by
  unfold tripVal
  dsimp only
  rw [pay3_eq]
  unfold headVal
  match hh with
  | ⟨0, _⟩ =>
    rw [if_pos (by show 64 * 0 + d.val < 64; omega), pay5_eq, headOut_apply]
    refine congrArg₂ smR (funext fun kk => ?_) (funext fun kk => ld_k x2 k k' hk kk _)
    refine congrArg₂ (· + ·) ?_ ((bias_cast _ r kk).trans (ld_b0 x3 k k' hk r kk))
    refine (rawS_apply _ _ _ r kk).trans ((sum_half0 _ _ _ mask0).trans (Finset.sum_congr rfl fun d' _ => ?_))
    rw [ld_q x0 k k' hk, ld_k x1 k k' hk]
    have e : (⟨d'.val, by omega⟩ : Fin 128) = lane ⟨0, by decide⟩ d' := Fin.ext (by show d'.val = 64 * 0 + d'.val; omega)
    rw [e]
  | ⟨1, _⟩ =>
    rw [if_neg (by show ¬ 64 * 1 + d.val < 64; omega), headOut_apply]
    refine congrArg₂ smR (funext fun kk => ?_) (funext fun kk => ld_k x2 k k' hk kk _)
    refine congrArg₂ (· + ·) ?_ ((bias_cast _ r kk).trans (ld_b1 x3 k k' hk r kk))
    refine (rawS_apply _ _ _ r kk).trans ((sum_half1 _ _ _ mask1).trans (Finset.sum_congr rfl fun d' _ => ?_))
    rw [ld_q x0 k k' hk, ld_k x1 k k' hk]
    rfl
end

variable (m : (ℓ : Loc nD τ sig) → Buf (Elt Ideal) ℓ) (ρ : Dev nD → PrngReg)

abbrev gRow (b : Fin 24) (i : Fin 2048) : Fin 49152 := ⟨2048 * b.val + i.val, by omega⟩
abbrev gCol (h : Fin 16) (d : Fin 64) : Fin 1024 := ⟨64 * h.val + d.val, by omega⟩

/-- The result of the operand arrays at row `r` of token row `k` of sequence `b`, channel `d` of head `h`. -/
def attnAt (q ky v : S49152x1024.Idx → EReal) (B : S8x2x8x64x512.Idx → EReal) (b : Fin 24) (k : Fin 32) (r : Fin 64) (h : Fin 16) (d : Fin 64) : EReal :=
  smR (fun kk : Fin 512 => (∑ d' : Fin 64, q (ix2 (n0 := 49152) (n1 := 1024) (gRow b (qRow k r)) (gCol h d'))
        * ky (ix2 (n0 := 49152) (n1 := 1024) (gRow b (keyRow k kk)) (gCol h d')))
      + B (ix5 (n0 := 8) (n1 := 2) (n2 := 8) (n3 := 64) (n4 := 512) ⟨h.val / 2, by omega⟩ ⟨h.val % 2, by omega⟩ (dlt k) r kk))
    (fun kk => v (ix2 (n0 := 49152) (n1 := 1024) (gRow b (keyRow k kk)) (gCol h d)))

/-- The result array of the operand arrays. -/
def attnArr (q ky v : S49152x1024.Idx → EReal) (B : S8x2x8x64x512.Idx → EReal) (i : S49152x1024.Idx) : EReal :=
  attnAt q ky v B ⟨(i 0).val / 2048, by have h : (i 0).val < 49152 := (i 0).isLt; omega⟩ ⟨(i 0).val % 2048 / 64, by omega⟩ ⟨(i 0).val % 64, by omega⟩
    ⟨(i 1).val / 64, by have h : (i 1).val < 1024 := (i 1).isLt; omega⟩ ⟨(i 1).val % 64, by omega⟩

theorem attnArr_at (q ky v : S49152x1024.Idx → EReal) (B : S8x2x8x64x512.Idx → EReal) (b : Fin 24) (k : Fin 32) (r : Fin 64) (h : Fin 16) (d : Fin 64)
    (i : S49152x1024.Idx) (h0 : (i 0).val = 2048 * b.val + (64 * k.val + r.val)) (h1 : (i 1).val = 64 * h.val + d.val) :
    attnArr q ky v B i = attnAt q ky v B b k r h d := by
  unfold attnArr
  congr 1 <;> refine Fin.ext ?_ <;> dsimp only <;> omega

/-- The windows' block indices at a grid point: the point's sequence and head pair. -/
theorem idx_facts : ∀ t : Fin cfg0.N, win0_0.index t 0 = win0_4.index t 0 ∧ win0_0.index t 1 = win0_4.index t 1
    ∧ win0_1.index t 0 = win0_4.index t 0 ∧ win0_1.index t 1 = win0_4.index t 1
    ∧ win0_2.index t 0 = win0_4.index t 0 ∧ win0_2.index t 1 = win0_4.index t 1
    ∧ win0_3.index t 0 = win0_4.index t 1 ∧ win0_3.index t 1 = 0 ∧ win0_3.index t 2 = 0 ∧ win0_3.index t 3 = 0 ∧ win0_3.index t 4 = 0
    ∧ win0_4.index t 0 < 24 ∧ win0_4.index t 1 < 8 :=
  (by decide +kernel : ∀ t : Fin grid0.N, win0_0.index t 0 = win0_4.index t 0 ∧ win0_0.index t 1 = win0_4.index t 1
    ∧ win0_1.index t 0 = win0_4.index t 0 ∧ win0_1.index t 1 = win0_4.index t 1
    ∧ win0_2.index t 0 = win0_4.index t 0 ∧ win0_2.index t 1 = win0_4.index t 1
    ∧ win0_3.index t 0 = win0_4.index t 1 ∧ win0_3.index t 1 = 0 ∧ win0_3.index t 2 = 0 ∧ win0_3.index t 3 = 0 ∧ win0_3.index t 4 = 0
    ∧ win0_4.index t 0 < 24 ∧ win0_4.index t 1 < 8)

/-- Every pair of a sequence and a head pair is some grid point's. -/
theorem points : ∀ b : Fin 24, ∀ p : Fin 8, ∃ t : Fin cfg0.N, win0_4.index t 0 = b.val ∧ win0_4.index t 1 = p.val :=
  (by decide +kernel : ∀ b : Fin 24, ∀ p : Fin 8, ∃ t : Fin grid0.N, win0_4.index t 0 = b.val ∧ win0_4.index t 1 = p.val)

abbrev hOf (p : Fin 8) (hh : Fin 2) : Fin 16 := ⟨2 * p.val + hh.val, by omega⟩

section
variable (c : Dev nD) (t : Fin cfg0.N) (b : Fin 24) (p : Fin 8) (hb : b.val = win0_4.index t 0) (hp : p.val = win0_4.index t 1)
include hb hp

theorem blk0 (i : Fin 2048) (hh : Fin 2) (d : Fin 64) : iblk m c 0 t (ix2 (n0 := 2048) (n1 := 128) i (lane hh d))
    = V m c main_arg0 (ix2 (n0 := 49152) (n1 := 1024) (gRow b i) (gCol (hOf p hh) d)) := by
  obtain ⟨h00, h01, h10, h11, h20, h21, -⟩ := idx_facts t
  show V m c main_arg0 _ = _
  refine congrArg _ (funext fun a => Fin.ext ?_)
  match a with
  | ⟨0, _⟩ => show win0_0.index t 0 * 2048 + 1 * i.val = 2048 * b.val + i.val; omega
  | ⟨1, _⟩ => show win0_0.index t 1 * 128 + 1 * (64 * hh.val + d.val) = 64 * (2 * p.val + hh.val) + d.val; omega
theorem blk1 (i : Fin 2048) (hh : Fin 2) (d : Fin 64) : iblk m c 1 t (ix2 (n0 := 2048) (n1 := 128) i (lane hh d))
    = V m c main_arg1 (ix2 (n0 := 49152) (n1 := 1024) (gRow b i) (gCol (hOf p hh) d)) := by
  obtain ⟨h00, h01, h10, h11, h20, h21, -⟩ := idx_facts t
  show V m c main_arg1 _ = _
  refine congrArg _ (funext fun a => Fin.ext ?_)
  match a with
  | ⟨0, _⟩ => show win0_1.index t 0 * 2048 + 1 * i.val = 2048 * b.val + i.val; omega
  | ⟨1, _⟩ => show win0_1.index t 1 * 128 + 1 * (64 * hh.val + d.val) = 64 * (2 * p.val + hh.val) + d.val; omega
theorem blk2 (i : Fin 2048) (hh : Fin 2) (d : Fin 64) : iblk m c 2 t (ix2 (n0 := 2048) (n1 := 128) i (lane hh d))
    = V m c main_arg2 (ix2 (n0 := 49152) (n1 := 1024) (gRow b i) (gCol (hOf p hh) d)) := by
  obtain ⟨h00, h01, h10, h11, h20, h21, -⟩ := idx_facts t
  show V m c main_arg2 _ = _
  refine congrArg _ (funext fun a => Fin.ext ?_)
  match a with
  | ⟨0, _⟩ => show win0_2.index t 0 * 2048 + 1 * i.val = 2048 * b.val + i.val; omega
  | ⟨1, _⟩ => show win0_2.index t 1 * 128 + 1 * (64 * hh.val + d.val) = 64 * (2 * p.val + hh.val) + d.val; omega
theorem blk3 (hh : Fin 2) (e : Fin 8) (r : Fin 64) (kk : Fin 512) :
    iblk m c 3 t (ix5 (n0 := 1) (n1 := 2) (n2 := 8) (n3 := 64) (n4 := 512) 0 hh e r kk)
    = V m c main_v56 (ix5 (n0 := 8) (n1 := 2) (n2 := 8) (n3 := 64) (n4 := 512) p hh e r kk) := by
  obtain ⟨-, -, -, -, -, -, h30, h31, h32, h33, h34, -⟩ := idx_facts t
  show V m c main_v56 _ = _
  refine congrArg _ (funext fun a => Fin.ext ?_)
  match a with
  | ⟨0, _⟩ => show win0_3.index t 0 * 1 + 1 * 0 = p.val; omega
  | ⟨1, _⟩ => show win0_3.index t 1 * 2 + 1 * hh.val = hh.val; omega
  | ⟨2, _⟩ => show win0_3.index t 2 * 8 + 1 * e.val = e.val; omega
  | ⟨3, _⟩ => show win0_3.index t 3 * 64 + 1 * r.val = r.val; omega
  | ⟨4, _⟩ => show win0_3.index t 4 * 512 + 1 * kk.val = kk.val; omega

theorem headVal_eq (k : Fin 32) (r : Fin 64) (hh : Fin 2) (d : Fin 64) :
    headVal (iblk m c 0 t) (iblk m c 1 t) (iblk m c 2 t) (iblk m c 3 t) k r hh d
      = attnAt (V m c main_arg0) (V m c main_arg1) (V m c main_arg2) (V m c main_v56) b k r (hOf p hh) d := by
  unfold headVal attnAt
  refine congrArg₂ smR (funext fun kk => congrArg₂ (· + ·) (Finset.sum_congr rfl fun d' _ => congrArg₂ (· * ·) ?_ ?_) ?_) (funext fun kk => ?_)
  · exact blk0 m c t b p hb hp _ hh d'
  · exact blk1 m c t b p hb hp _ hh d'
  · refine (blk3 m c t b p hb hp hh _ r kk).trans (congrArg (V m c main_v56) (funext fun a => Fin.ext ?_))
    match a with
    | ⟨0, _⟩ => show p.val = (2 * p.val + hh.val) / 2; omega
    | ⟨1, _⟩ => show hh.val = (2 * p.val + hh.val) % 2; omega
    | ⟨2, _⟩ => rfl
    | ⟨3, _⟩ => rfl
    | ⟨4, _⟩ => rfl
  · exact blk2 m c t b p hb hp _ hh d
end

/-- The result array of the operand arrays the call finds. -/
abbrev G (c : Dev nD) : Buf (Elt Ideal) ((c : Thread nD τ).loc main_v57) :=
  attnArr (V m c main_arg0) (V m c main_arg1) (V m c main_arg2) (V m c main_v56)

theorem outs_at (c : Dev nD) (t : Fin cfg0.N) (k : Fin 32) (r : Fin 64) (hh : Fin 2) (d : Fin 64) :
    outsAt0 m c t (ix2 (n0 := 2048) (n1 := 128) (qRow k r) (lane hh d)) = headVal (iblk m c 0 t) (iblk m c 1 t) (iblk m c 2 t) (iblk m c 3 t) k r hh d := by
  unfold outsAt0
  rw [out_eq]
  rw [blockVal_at _ _ _ _ _ ⟨k.val, by rw [trips_eq]; exact k.isLt⟩ r (lane hh d) rfl rfl]
  exact tripVal_apply _ _ _ _ _ k rfl r hh d

theorem block_at (c : Dev nD) (t : Fin cfg0.N) (k : Fin 32) (r : Fin 64) (hh : Fin 2) (d : Fin 64) :
    outsAt0 m c t (ix2 (n0 := 2048) (n1 := 128) (qRow k r) (lane hh d))
      = G m c (((cfg0.win 4).blk t).view.emb (ix2 (n0 := 2048) (n1 := 128) (qRow k r) (lane hh d))) := by
  obtain ⟨-, -, -, -, -, -, -, -, -, -, -, hb, hp⟩ := idx_facts t
  rw [outs_at, headVal_eq m c t ⟨win0_4.index t 0, hb⟩ ⟨win0_4.index t 1, hp⟩ rfl rfl k r hh d]
  refine (attnArr_at _ _ _ _ _ _ _ _ _ _ ?_ ?_).symm
  · show win0_4.index t 0 * 2048 + 1 * (64 * k.val + r.val) = 2048 * win0_4.index t 0 + (64 * k.val + r.val); omega
  · show win0_4.index t 1 * 128 + 1 * (64 * hh.val + d.val) = 64 * (2 * win0_4.index t 1 + hh.val) + d.val; omega

theorem split_idx (y : S2048x128.Idx) : ∃ (k : Fin 32) (r : Fin 64) (hh : Fin 2) (d : Fin 64), y = ix2 (n0 := 2048) (n1 := 128) (qRow k r) (lane hh d) := by
  have h0 : (y 0).val < 2048 := (y 0).isLt
  have h1 : (y 1).val < 128 := (y 1).isLt
  refine ⟨⟨(y 0).val / 64, by omega⟩, ⟨(y 0).val % 64, by omega⟩, ⟨(y 1).val / 64, by omega⟩, ⟨(y 1).val % 64, by omega⟩, funext fun a => Fin.ext ?_⟩
  match a with
  | ⟨0, _⟩ => show (y 0).val = 64 * ((y 0).val / 64) + (y 0).val % 64; omega
  | ⟨1, _⟩ => show (y 1).val = 64 * ((y 1).val / 64) + (y 1).val % 64; omega

theorem block_all (c : Dev nD) (t : Fin cfg0.N) (y : S2048x128.Idx) : outsAt0 m c t y = G m c (((cfg0.win 4).blk t).view.emb y) := by
  obtain ⟨k, r, hh, d, rfl⟩ := split_idx y
  exact block_at m c t k r hh d

end Cert.AttnProof

end
-- ==== Proof.AttnFinal.lean ====
/-
  The attention kernel's result array after its run.
-/
module

public import proofs.«01_k».proof.Proof.AttnKernel

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.ValueIdx
open Idealize.ShloMosaic.Pipeline (Dat)
open Cert.AttnMath
open scoped BigOperators

variable (m : (ℓ : Loc nD τ sig) → Buf (Elt Ideal) ℓ) (ρ : Dev nD → PrngReg)

/-- What a grid point writes back is its block of the result. -/
theorem flushed_eq (c : Dev nD) (t : Fin cfg0.N) : (dats m 0 c).flushed 4 t = ((cfg0.win 4).blk t).view.read (Elt Ideal) (G m c) := by
  rw [Value.flushed4]
  have hX := block_all m c t
  generalize outsAt0 m c t = X at hX ⊢
  generalize G m c = Y at hX ⊢
  exact funext fun y => hX y

/-- Every index of the result is in some grid point's block. -/
theorem cover (i : S49152x1024.Idx) : ∃ t : Fin cfg0.N, (cfg0.win 4).flush t = true ∧ i ∈ ((cfg0.win 4).blk t).view.set := by
  have h0 : (i 0).val < 49152 := (i 0).isLt
  have h1 : (i 1).val < 1024 := (i 1).isLt
  obtain ⟨t, e0, e1⟩ := points ⟨(i 0).val / 2048, by omega⟩ ⟨(i 1).val / 128, by omega⟩
  refine ⟨t, flush0_4 t, ?_⟩
  show i ∈ ((View.whole main_v57).slice (win0_4.rect t)).set
  rw [View.set_slice_whole, Rect.mem_set_unit]
  dsimp only at e0 e1
  intro a
  match a with
  | ⟨0, _⟩ => show win0_4.index t 0 * 2048 ≤ (i 0).val ∧ (i 0).val < win0_4.index t 0 * 2048 + 2048; omega
  | ⟨1, _⟩ => show win0_4.index t 1 * 128 ≤ (i 1).val ∧ (i 1).val < win0_4.index t 1 * 128 + 128; omega

/-- The result array after the run. -/
theorem final (c : Dev nD) : (dats m 0 c).arrAt 4 cfg0.N = G m c :=
  (dats m 0 c).arrAt_eq_of_cover 4 (G m c) (fun t _ => flushed_eq m c t) cover

end Cert.AttnProof

end
-- ==== Proof.AttnHost.lean ====
/-
  The table of position biases the host makes of the bias parameter, read off the operations before the call.
-/
module

public import proofs.«01_k».proof.Proof.AttnTrip
public import Idealize.ShloMosaic.Lib.StableHlo.RunRead

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.ValueIdx
open scoped BigOperators

/-- The column of a query, over the table's axes. -/
def colQ : IVec S1x64x1x1 32 := broadcastInDim S1x64x1x1 ![1] bcast_S64_S1x64x1x1_1 (iotaInDim S64 32 0)
/-- The column of a key, over the table's axes. -/
def colK : IVec S1x1x1x64 32 := broadcastInDim S1x1x1x64 ![3] bcast_S64_S1x1x1x64_3 (iotaInDim S64 32 0)
/-- The first column of a query's window. -/
def win0 : IVec S1x64x1x1 32 :=
  minsi (broadcastInDim S1x64x1x1 ![] bcast_S_S1x64x1x1 (constantI S_ 32 48#32))
    (maxsi (broadcastInDim S1x64x1x1 ![] bcast_S_S1x64x1x1 (constantI S_ 32 0#32))
      (subi colQ (broadcastInDim S1x64x1x1 ![] bcast_S_S1x64x1x1 (constantI S_ 32 8#32))))
/-- Whether a key's column is in the query's window. -/
def inWin : IVec S1x64x1x64 1 :=
  andi (cmpi .sge (broadcastInDim S1x64x1x64 ![0, 1, 2, 3] bcast_S1x1x1x64_S1x64x1x64_0_1_2_3 colK)
      (broadcastInDim S1x64x1x64 ![0, 1, 2, 3] bcast_S1x64x1x1_S1x64x1x64_0_1_2_3 win0))
    (cmpi .slt (broadcastInDim S1x64x1x64 ![0, 1, 2, 3] bcast_S1x1x1x64_S1x64x1x64_0_1_2_3 colK)
      (broadcastInDim S1x64x1x64 ![0, 1, 2, 3] bcast_S1x64x1x1_S1x64x1x64_0_1_2_3
        (addi win0 (broadcastInDim S1x64x1x1 ![] bcast_S_S1x64x1x1 (constantI S_ 32 16#32)))))
/-- The row offset of a key, as an index of the parameter. -/
def rowOff : IVec S8x8 32 :=
  shapeCast S8x8 (addi (subi
      (broadcastInDim S8x1x8x1 ![0, 1, 2, 3] bcast_S1x1x8x1_S8x1x8x1_0_1_2_3 (broadcastInDim S1x1x8x1 ![2] bcast_S8_S1x1x8x1_2 (iotaInDim S8 32 0)))
      (broadcastInDim S8x1x8x1 ![0, 1, 2, 3] bcast_S8x1x1x1_S8x1x8x1_0_1_2_3 (broadcastInDim S8x1x1x1 ![0] bcast_S8_S8x1x1x1_0 (iotaInDim S8 32 0))))
    (broadcastInDim S8x1x8x1 ![] bcast_S_S8x1x8x1 (constantI S_ 32 7#32))) shapeCasts_S8x1x8x1_S8x8
/-- The gather's index of the row offset. -/
def rowIdx : IVec S8x8x1 32 :=
  broadcastInDim S8x8x1 ![0, 1] bcast_S8x8_S8x8x1_0_1
    (select (cmpi .slt rowOff (broadcastInDim S8x8 ![] bcast_S_S8x8 (constantI S_ 32 0#32)))
      (addi rowOff (broadcastInDim S8x8 ![] bcast_S_S8x8 (constantI S_ 32 15#32))) rowOff)
/-- The column offset of a key, kept inside the parameter's columns. -/
def colOff : IVec S64x64 32 :=
  shapeCast S64x64 (minsi (broadcastInDim S1x64x1x64 ![] bcast_S_S1x64x1x64 (constantI S_ 32 30#32))
    (maxsi (broadcastInDim S1x64x1x64 ![] bcast_S_S1x64x1x64 (constantI S_ 32 0#32))
      (addi (subi (broadcastInDim S1x64x1x64 ![0, 1, 2, 3] bcast_S1x1x1x64_S1x64x1x64_0_1_2_3 colK)
          (broadcastInDim S1x64x1x64 ![0, 1, 2, 3] bcast_S1x64x1x1_S1x64x1x64_0_1_2_3 colQ))
        (broadcastInDim S1x64x1x64 ![] bcast_S_S1x64x1x64 (constantI S_ 32 15#32))))) shapeCasts_S1x64x1x64_S64x64
/-- One where a column offset is the parameter's column, zero elsewhere. -/
def oneHot : FVec Ideal S31x64x64 .f32 :=
  uitofp .f32 (cmpi .eq (broadcastInDim S31x64x64 ![0, 1, 2] bcast_S1x64x64_S31x64x64_0_1_2 (broadcastInDim S1x64x64 ![1, 2] bcast_S64x64_S1x64x64_1_2 colOff))
    (broadcastInDim S31x64x64 ![0, 1, 2] bcast_S31x1x1_S31x64x64_0_1_2 (broadcastInDim S31x1x1 ![0] bcast_S31_S31x1x1_0 (iotaInDim S31 32 0))))
/-- The parameter's rows by the row offsets. -/
def rows (x : FVec Ideal S16x15x31 .f32) : FVec Ideal S16x8x8x31 .f32 :=
  Host.gather gather_S16x15x31_S8x8x1_S16x8x8x31_03_1_n_n_1_2_16131 x rowIdx
/-- The rows times the one-hot columns. -/
def prods (x : FVec Ideal S16x15x31 .f32) : FVec Ideal S16x8x64x8x64x31 .f32 :=
  mulf (broadcastInDim S16x8x64x8x64x31 ![0, 1, 2, 3, 4, 5] bcast_S16x8x1x8x1x31_S16x8x64x8x64x31_0_1_2_3_4_5
      (broadcastInDim S16x8x1x8x1x31 ![0, 1, 3, 5] bcast_S16x8x8x31_S16x8x1x8x1x31_0_1_3_5 (rows x)))
    (broadcastInDim S16x8x64x8x64x31 ![0, 1, 2, 3, 4, 5] bcast_S1x1x64x1x64x31_S16x8x64x8x64x31_0_1_2_3_4_5
      (broadcastInDim S1x1x64x1x64x31 ![2, 4, 5] bcast_S64x64x31_S1x1x64x1x64x31_2_4_5
        (transpose S64x64x31 [1, 2, 0] oneHot transposes_S31x64x64_S64x64x31_1_2_0)))
/-- The biases with minus infinity outside the window, before the last reshape. -/
def table5 (x : FVec Ideal S16x15x31 .f32) : FVec Ideal S16x8x64x8x64 .f32 :=
  select (broadcastInDim S16x8x64x8x64 ![0, 1, 2, 3, 4] bcast_S1x1x64x1x64_S16x8x64x8x64_0_1_2_3_4
      (broadcastInDim S1x1x64x1x64 ![1, 2, 3, 4] bcast_S1x64x1x64_S1x1x64x1x64_1_2_3_4 inWin))
    (Host.reduceAdd (prods x) (constant S_ .f32 0x00000000#32) reducesTo_S16x8x64x8x64x31_S16x8x64x8x64_d5 h_S_)
    (broadcastInDim S16x8x64x8x64 ![] bcast_S_S16x8x64x8x64 (constant S_ .f32 0xFF800000#32))

variable (m : (ℓ : Loc nD τ sig) → Buf (Elt Ideal) ℓ) (ρ : Dev nD → PrngReg)

theorem V_v56 (c : Dev nD) : V m c main_v56
    = shapeCast S8x2x8x64x512 (table5 (m ((c : Thread nD τ).loc main_arg3))) shapeCasts_S16x8x64x8x64_S8x2x8x64x512 := by
  dsimp only [V, hostOps0, hostOps0_1, hostOps0_2, hostOps0_3, hostOps0_4, hostOps0_5, hostOps0_6]
  after_reads_simp
  rfl

end Cert.AttnProof

end
-- ==== Proof.AttnBias.lean ====
/-
  The table of position biases, entry by entry: inside the window the parameter at the row and column offsets, outside
  minus infinity.
-/
module

public import proofs.«01_k».proof.Proof.AttnHost
public import proofs.«01_k».proof.Proof.AttnTile

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.ValueIdx
open scoped BigOperators

/-- A gather read at an index: the operand at the index the axes' coordinates name. -/
theorem gather_at {α : Type} {s si t : Shape} {w : Nat} (d : GatherDims s si t) (x : s.Idx → α) (idx : IVec si w) (j : t.Idx) (o : s.Idx)
    (h : ∀ a, d.start j idx a + d.batchCoord j a + d.offCoord j a = (o a).val) : Host.gather d x idx j = x o :=
  congrArg x (funext fun a => Fin.ext (h a))

theorem rows_gather (x : FVec Ideal S16x15x31 .f32) (idx : IVec S8x8x1 32) (h : Fin 16) (e i : Fin 8) (j : Fin 31) (n : Fin 15)
    (hn : (idx (ix3 e i (0 : Fin 1))).toInt.toNat = n.val) :
    Host.gather gather_S16x15x31_S8x8x1_S16x8x8x31_03_1_n_n_1_2_16131 x idx (ix4 h e i j) = x (ix3 (n0 := 16) (n1 := 15) (n2 := 31) h n j) := by
  refine gather_at _ _ _ _ _ fun a => ?_
  match a with
  | ⟨0, _⟩ => show 0 + 0 + h.val = h.val; omega
  | ⟨1, _⟩ =>
    have hs : gather_S16x15x31_S8x8x1_S16x8x8x31_03_1_n_n_1_2_16131.siIdx (ix4 h e i j) ⟨0, by decide⟩ = ix3 e i (0 : Fin 1) := by
      funext b; refine Fin.ext ?_
      match b with
      | ⟨0, _⟩ => rfl
      | ⟨1, _⟩ => rfl
      | ⟨2, _⟩ => rfl
    show min (idx (gather_S16x15x31_S8x8x1_S16x8x8x31_03_1_n_n_1_2_16131.siIdx (ix4 h e i j) ⟨0, by decide⟩)).toInt.toNat (15 - 1) + 0 + 0 = n.val
    rw [hs, hn]
    omega
  | ⟨2, _⟩ => show 0 + 0 + j.val = j.val; omega

/-- The first column of query column `r`'s window. -/
def c0 (r : Nat) : Nat := min (r - 8) 48

theorem inWin_apply : ∀ r kc : Fin 64, inWin (ix4 (0 : Fin 1) r (0 : Fin 1) kc) = if c0 r.val ≤ kc.val ∧ kc.val < c0 r.val + 16 then 1#1 else 0#1 := by
  decide +kernel
theorem rowIdx_apply : ∀ e i : Fin 8, (rowIdx (ix3 e i (0 : Fin 1))).toInt.toNat = i.val + 7 - e.val := by
  decide +kernel
theorem colOff_apply : ∀ r kc : Fin 64, colOff (ix2 r kc) = BitVec.ofNat 32 (min (kc.val + 15 - r.val) 30) := by
  decide +kernel

end Cert.AttnProof

end
-- ==== Proof.AttnTable.lean ====
/-
  The bias table as the kernel receives it: the parameter at the row and column offsets inside the window, minus
  infinity outside.
-/
module

public import proofs.«01_k».proof.Proof.AttnBias
public import Idealize.ShloMosaic.Lib.ValueIdxRank6

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.ValueIdx
open scoped BigOperators

theorem oneHot_apply (j : Fin 31) (r kc : Fin 64) :
    oneHot (ix3 j r kc) = if min (kc.val + 15 - r.val) 30 = j.val then (1 : EReal) else 0 := by
  have h1 : broadcastInDim S31x64x64 ![0, 1, 2] bcast_S1x64x64_S31x64x64_0_1_2 (broadcastInDim S1x64x64 ![1, 2] bcast_S64x64_S1x64x64_1_2 colOff) (ix3 j r kc)
      = BitVec.ofNat 32 (min (kc.val + 15 - r.val) 30) := by
    refine (broadcastInDim_apply _ _ _ _ (ix3 (n0 := 1) (n1 := 64) (n2 := 64) 0 r kc) (fun a => match a with | ⟨0, _⟩ => rfl | ⟨1, _⟩ => rfl | ⟨2, _⟩ => rfl)).trans ?_
    refine (broadcastInDim_apply _ _ _ _ (ix2 (n0 := 64) (n1 := 64) r kc) (fun a => match a with | ⟨0, _⟩ => rfl | ⟨1, _⟩ => rfl)).trans ?_
    exact colOff_apply r kc
  have h2 : broadcastInDim S31x64x64 ![0, 1, 2] bcast_S31x1x1_S31x64x64_0_1_2 (broadcastInDim S31x1x1 ![0] bcast_S31_S31x1x1_0 (iotaInDim S31 32 0)) (ix3 j r kc)
      = BitVec.ofNat 32 j.val := by
    refine (broadcastInDim_apply _ _ _ _ (ix3 (n0 := 31) (n1 := 1) (n2 := 1) j 0 0) (fun a => match a with | ⟨0, _⟩ => rfl | ⟨1, _⟩ => rfl | ⟨2, _⟩ => rfl)).trans ?_
    exact broadcastInDim_apply _ _ _ _ (ix1 (n := 31) j) (fun a => match a with | ⟨0, _⟩ => rfl)
  have h : ∀ a b : Fin 31, ((IntOp.cmpi .eq (BitVec.ofNat 32 a.val) (BitVec.ofNat 32 b.val)).toNat) = if a.val = b.val then 1 else 0 := by decide +kernel
  have h3 : oneHot (ix3 j r kc) = (((IntOp.cmpi .eq (BitVec.ofNat 32 (min (kc.val + 15 - r.val) 30)) (BitVec.ofNat 32 j.val)).toNat : ℝ) : EReal) := by
    show (((IntOp.cmpi .eq _ _).toNat : ℝ) : EReal) = _
    exact congrArg₂ (fun a b => (((IntOp.cmpi .eq a b).toNat : ℝ) : EReal)) h1 h2
  rw [h3, h ⟨min (kc.val + 15 - r.val) 30, by omega⟩ j]
  show (((if min (kc.val + 15 - r.val) 30 = j.val then 1 else 0 : ℕ) : ℝ) : EReal) = _
  split
  · simp
  · simp

theorem prods_apply (x : FVec Ideal S16x15x31 .f32) (h : Fin 16) (e : Fin 8) (r : Fin 64) (i : Fin 8) (kc : Fin 64) (j : Fin 31) (n : Fin 15)
    (hn : i.val + 7 - e.val = n.val) :
    prods x (ix6 h e r i kc j) = x (ix3 (n0 := 16) (n1 := 15) (n2 := 31) h n j) * (if min (kc.val + 15 - r.val) 30 = j.val then (1 : EReal) else 0) := by
  have h1 : broadcastInDim S16x8x64x8x64x31 ![0, 1, 2, 3, 4, 5] bcast_S16x8x1x8x1x31_S16x8x64x8x64x31_0_1_2_3_4_5
      (broadcastInDim S16x8x1x8x1x31 ![0, 1, 3, 5] bcast_S16x8x8x31_S16x8x1x8x1x31_0_1_3_5 (rows x)) (ix6 h e r i kc j) = x (ix3 (n0 := 16) (n1 := 15) (n2 := 31) h n j) := by
    refine (broadcastInDim_apply _ _ _ _ (ix6 (n0 := 16) (n1 := 8) (n2 := 1) (n3 := 8) (n4 := 1) (n5 := 31) h e 0 i 0 j)
      (fun a => match a with | ⟨0, _⟩ => rfl | ⟨1, _⟩ => rfl | ⟨2, _⟩ => rfl | ⟨3, _⟩ => rfl | ⟨4, _⟩ => rfl | ⟨5, _⟩ => rfl)).trans ?_
    refine (broadcastInDim_apply _ _ _ _ (ix4 (n0 := 16) (n1 := 8) (n2 := 8) (n3 := 31) h e i j)
      (fun a => match a with | ⟨0, _⟩ => rfl | ⟨1, _⟩ => rfl | ⟨2, _⟩ => rfl | ⟨3, _⟩ => rfl)).trans ?_
    exact rows_gather x rowIdx h e i j n ((rowIdx_apply e i).trans hn)
  have h2 : broadcastInDim S16x8x64x8x64x31 ![0, 1, 2, 3, 4, 5] bcast_S1x1x64x1x64x31_S16x8x64x8x64x31_0_1_2_3_4_5
      (broadcastInDim S1x1x64x1x64x31 ![2, 4, 5] bcast_S64x64x31_S1x1x64x1x64x31_2_4_5
        (transpose S64x64x31 [1, 2, 0] oneHot transposes_S31x64x64_S64x64x31_1_2_0)) (ix6 h e r i kc j)
      = if min (kc.val + 15 - r.val) 30 = j.val then (1 : EReal) else 0 := by
    refine (broadcastInDim_apply _ _ _ _ (ix6 (n0 := 1) (n1 := 1) (n2 := 64) (n3 := 1) (n4 := 64) (n5 := 31) 0 0 r 0 kc j)
      (fun a => match a with | ⟨0, _⟩ => rfl | ⟨1, _⟩ => rfl | ⟨2, _⟩ => rfl | ⟨3, _⟩ => rfl | ⟨4, _⟩ => rfl | ⟨5, _⟩ => rfl)).trans ?_
    refine (broadcastInDim_apply _ _ _ _ (ix3 (n0 := 64) (n1 := 64) (n2 := 31) r kc j)
      (fun a => match a with | ⟨0, _⟩ => rfl | ⟨1, _⟩ => rfl | ⟨2, _⟩ => rfl)).trans ?_
    refine (transpose_apply [1, 2, 0] oneHot transposes_S31x64x64_S64x64x31_1_2_0 _ (ix3 (n0 := 31) (n1 := 64) (n2 := 64) j r kc)
      (fun b => match b with | ⟨0, _⟩ => rfl | ⟨1, _⟩ => rfl | ⟨2, _⟩ => rfl)).trans ?_
    exact oneHot_apply j r kc
  exact congrArg₂ (· * ·) h1 h2

/-- The one-hot sum picks the parameter at the column offset. -/
theorem sum_apply (x : FVec Ideal S16x15x31 .f32) (h : Fin 16) (e : Fin 8) (r : Fin 64) (i : Fin 8) (kc : Fin 64) (n : Fin 15) (j : Fin 31)
    (hn : i.val + 7 - e.val = n.val) (hj : min (kc.val + 15 - r.val) 30 = j.val) :
    Host.reduceAdd (prods x) (constant S_ .f32 0x00000000#32) reducesTo_S16x8x64x8x64x31_S16x8x64x8x64_d5 h_S_ (ix5 h e r i kc)
      = x (ix3 (n0 := 16) (n1 := 15) (n2 := 31) h n j) := by
  have hr : Shape.Reduces S16x8x64x8x64x31 [5] S16x8x64x8x64 := by decide
  show Ideal.hostReduceAdd _ (prods x) _ _ = _
  rw [Ideal.hostReduceAdd_single reducesTo_S16x8x64x8x64x31_S16x8x64x8x64_d5 hr]
  have hl : ∀ k : Fin 31, hr.lift (ix5 h e r i kc) k = ix6 h e r i kc k := by
    intro k; funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
    | ⟨5, _⟩ => exact Fin.ext rfl
  refine (congrArg (· + _) Ideal.ofBits_zero_f32).trans ((zero_add _).trans ?_)
  refine (Finset.sum_congr rfl fun k _ => (congrArg (prods x) (hl k)).trans (prods_apply x h e r i kc k n hn)).trans ?_
  refine (Finset.sum_eq_single j ?_ ?_).trans ?_
  · intro b _ hb
    rw [if_neg (fun hc => hb (Fin.ext (hc.symm.trans hj))), mul_zero]
  · intro hc; exact absurd (Finset.mem_univ j) hc
  · rw [if_pos hj, mul_one]

theorem table5_apply (x : FVec Ideal S16x15x31 .f32) (h : Fin 16) (e : Fin 8) (r : Fin 64) (i : Fin 8) (kc : Fin 64) (n : Fin 15) (j : Fin 31)
    (hn : i.val + 7 - e.val = n.val) (hj : min (kc.val + 15 - r.val) 30 = j.val) :
    table5 x (ix5 h e r i kc) = if c0 r.val ≤ kc.val ∧ kc.val < c0 r.val + 16 then x (ix3 (n0 := 16) (n1 := 15) (n2 := 31) h n j) else ⊥ := by
  have h1 : broadcastInDim S16x8x64x8x64 ![0, 1, 2, 3, 4] bcast_S1x1x64x1x64_S16x8x64x8x64_0_1_2_3_4
      (broadcastInDim S1x1x64x1x64 ![1, 2, 3, 4] bcast_S1x64x1x64_S1x1x64x1x64_1_2_3_4 inWin) (ix5 h e r i kc)
      = if c0 r.val ≤ kc.val ∧ kc.val < c0 r.val + 16 then 1#1 else 0#1 := by
    refine (broadcastInDim_apply _ _ _ _ (ix5 (n0 := 1) (n1 := 1) (n2 := 64) (n3 := 1) (n4 := 64) 0 0 r 0 kc)
      (fun a => match a with | ⟨0, _⟩ => rfl | ⟨1, _⟩ => rfl | ⟨2, _⟩ => rfl | ⟨3, _⟩ => rfl | ⟨4, _⟩ => rfl)).trans ?_
    refine (broadcastInDim_apply _ _ _ _ (ix4 (n0 := 1) (n1 := 64) (n2 := 1) (n3 := 64) 0 r 0 kc)
      (fun a => match a with | ⟨0, _⟩ => rfl | ⟨1, _⟩ => rfl | ⟨2, _⟩ => rfl | ⟨3, _⟩ => rfl)).trans ?_
    exact inWin_apply r kc
  have h2 := sum_apply x h e r i kc n j hn hj
  have h3 : broadcastInDim S16x8x64x8x64 ![] bcast_S_S16x8x64x8x64 (constant (F := Ideal) S_ .f32 0xFF800000#32) (ix5 h e r i kc) = (⊥ : EReal) := ofBits_bot
  by_cases hw : c0 r.val ≤ kc.val ∧ kc.val < c0 r.val + 16
  · rw [if_pos hw] at h1 ⊢
    refine Eq.trans ?_ h2
    show (if _ = 1#1 then _ else _) = _
    exact if_pos h1
  · rw [if_neg hw] at h1 ⊢
    refine Eq.trans ?_ h3
    show (if _ = 1#1 then _ else _) = _
    exact if_neg (fun hc => by rw [h1] at hc; exact absurd hc (by decide))

/-- The table the kernel reads. -/
theorem bias_apply (x : FVec Ideal S16x15x31 .f32) (p : Fin 8) (hh : Fin 2) (h : Fin 16) (hp : h.val = 2 * p.val + hh.val)
    (e : Fin 8) (r : Fin 64) (kk : Fin 512) (n : Fin 15) (j : Fin 31)
    (hn : kk.val / 64 + 7 - e.val = n.val) (hj : min (kk.val % 64 + 15 - r.val) 30 = j.val) :
    shapeCast S8x2x8x64x512 (table5 x) shapeCasts_S16x8x64x8x64_S8x2x8x64x512 (ix5 p hh e r kk)
      = if c0 r.val ≤ kk.val % 64 ∧ kk.val % 64 < c0 r.val + 16 then x (ix3 (n0 := 16) (n1 := 15) (n2 := 31) h n j) else ⊥ := by
  refine (shapeCast_apply (table5 x) _ _ (ix5 h e r (⟨kk.val / 64, by omega⟩ : Fin 8) (⟨kk.val % 64, by omega⟩ : Fin 64)) ?_).trans ?_
  · rw [Shape.rowMajor_val_five, Shape.rowMajor_val_five]
    show (((h.val * 8 + e.val) * 64 + r.val) * 8 + kk.val / 64) * 64 + kk.val % 64 = (((p.val * 2 + hh.val) * 8 + e.val) * 64 + r.val) * 512 + kk.val
    omega
  · exact table5_apply x h e r _ _ n j hn hj

end Cert.AttnProof

end
-- ==== Proof.AttnRefIdx.lean ====
/-
  The reference's neighbourhoods: which key, which value and which bias the gathers read, for each query and each place
  of its window.
-/
module

public import proofs.«01_k».proof.Proof.Gen.AttnRefIdeal.Read
public import Idealize.ShloMosaic.Lib.ValueIdxRank6

@[expose] public section

set_option maxRecDepth 16384

noncomputable section

namespace Cert.AttnRefProof

open Cert.AttnRefIdeal Cert.AttnRefIdeal.Gen Cert.AttnRefIdeal.Read Idealize.ShloMosaic
open Idealize.ShloMosaic.ValueIdx
open scoped BigOperators

/-- A rank seven index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx := fun x => match x with
  | ⟨0, _⟩ => a | ⟨1, _⟩ => b | ⟨2, _⟩ => c | ⟨3, _⟩ => d | ⟨4, _⟩ => e | ⟨5, _⟩ => f | ⟨6, _⟩ => g

/-- The first row of query row `r`'s window. -/
def row0 (r : Nat) : Nat := min (r - 4) 24
/-- The first column of query column `c`'s window. -/
def col0 (c : Nat) : Nat := min (c - 8) 48

/-- A gather read at an index: the operand at the index the axes' coordinates name. -/
theorem gather_at {α : Type} {s si t : Shape} {w : Nat} (d : GatherDims s si t) (x : s.Idx → α) (idx : IVec si w) (j : t.Idx) (o : s.Idx)
    (h : ∀ a, d.start j idx a + d.batchCoord j a + d.offCoord j a = (o a).val) : Host.gather d x idx j = x o :=
  congrArg x (funext fun a => Fin.ext (h a))

/-! ### The indices -/

theorem v41_at : ∀ (r : Fin 32) (i : Fin 8), (BitVec.toInt (n := 32) (val_main_v41 (F := Ideal) (ix3 r i (0 : Fin 1)))).toNat = row0 r.val + i.val := by decide +kernel
theorem v55_at : ∀ (r : Fin 32) (i : Fin 8), (BitVec.toInt (n := 32) (val_main_v55 (F := Ideal) (ix3 r i (0 : Fin 1)))).toNat = row0 r.val + i.val := by decide +kernel
theorem v48_at : ∀ (c : Fin 64) (j : Fin 16), (BitVec.toInt (n := 32) (val_main_v48 (F := Ideal) (ix3 c j (0 : Fin 1)))).toNat = col0 c.val + j.val := by decide +kernel
theorem v62_at : ∀ (c : Fin 64) (j : Fin 16), (BitVec.toInt (n := 32) (val_main_v62 (F := Ideal) (ix3 c j (0 : Fin 1)))).toNat = col0 c.val + j.val := by decide +kernel
theorem v70_at : ∀ (r : Fin 32) (i : Fin 8), (BitVec.toInt (n := 32) (val_main_v70 (F := Ideal) (ix4 r i (0 : Fin 1) (0 : Fin 1)))).toNat = row0 r.val + i.val + 7 - r.val := by decide +kernel
theorem v75_at : ∀ (c : Fin 64) (j : Fin 16), (BitVec.toInt (n := 32) (val_main_v75 (F := Ideal) (ix4 (0 : Fin 1) (0 : Fin 1) c j))).toNat = col0 c.val + j.val + 15 - c.val := by decide +kernel

theorem v80_row (r : Fin 32) (i : Fin 8) (c : Fin 64) (j : Fin 16) :
    (BitVec.toInt (n := 32) (val_main_v80 (F := Ideal) (ix5 r i c j (0 : Fin 2)))).toNat = row0 r.val + i.val + 7 - r.val := by
  have h : val_main_v80 (F := Ideal) (ix5 r i c j (0 : Fin 2)) = val_main_v70 (F := Ideal) (ix4 r i (0 : Fin 1) (0 : Fin 1)) := by
    unfold val_main_v80
    refine (concatenate_pair_apply_left (t := S32x8x64x16x2) (s₁ := S32x8x64x16x1) (s₂ := S32x8x64x16x1) 4 _ _ _ _ rfl (ix5 r i c j (0 : Fin 1)) ?_).trans ?_
    · intro b
      match b with
      | ⟨0, _⟩ => rfl
      | ⟨1, _⟩ => rfl
      | ⟨2, _⟩ => rfl
      | ⟨3, _⟩ => rfl
      | ⟨4, _⟩ => rfl
    · rw [val_main_v78_apply, val_main_v76_apply]
      exact congrArg _ (by funext a; match a with | ⟨0, _⟩ => rfl | ⟨1, _⟩ => rfl | ⟨2, _⟩ => rfl | ⟨3, _⟩ => rfl)
  rw [h]
  exact v70_at r i

theorem v80_col (r : Fin 32) (i : Fin 8) (c : Fin 64) (j : Fin 16) :
    (BitVec.toInt (n := 32) (val_main_v80 (F := Ideal) (ix5 r i c j (1 : Fin 2)))).toNat = col0 c.val + j.val + 15 - c.val := by
  have h : val_main_v80 (F := Ideal) (ix5 r i c j (1 : Fin 2)) = val_main_v75 (F := Ideal) (ix4 (0 : Fin 1) (0 : Fin 1) c j) := by
    unfold val_main_v80
    refine (concatenate_pair_apply_right (t := S32x8x64x16x2) (s₁ := S32x8x64x16x1) (s₂ := S32x8x64x16x1) 4 _ _ _ _ rfl rfl (ix5 r i c j (0 : Fin 1)) ?_ rfl).trans ?_
    · intro b hb
      match b with
      | ⟨0, _⟩ => rfl
      | ⟨1, _⟩ => rfl
      | ⟨2, _⟩ => rfl
      | ⟨3, _⟩ => rfl
      | ⟨4, _⟩ => exact absurd rfl hb
    · rw [val_main_v79_apply, val_main_v77_apply]
      exact congrArg _ (by funext a; match a with | ⟨0, _⟩ => rfl | ⟨1, _⟩ => rfl | ⟨2, _⟩ => rfl | ⟨3, _⟩ => rfl)
  rw [h]
  exact v75_at c j

/-! ### The gathers -/

theorem gather_rows (x : FVec Ideal S24x32x64x16x64 .f32) (idx : IVec S32x8x1 32) (b : Fin 24) (r : Fin 32) (i : Fin 8) (c : Fin 64) (h : Fin 16) (d : Fin 64)
    (n : Fin 32) (hn : (idx (ix3 r i (0 : Fin 1))).toInt.toNat = n.val) :
    Host.gather gather_S24x32x64x16x64_S32x8x1_S24x32x8x64x16x64_0345_1_n_n_1_2_241641664 x idx (ix6 b r i c h d)
      = x (ix5 (n0 := 24) (n1 := 32) (n2 := 64) (n3 := 16) (n4 := 64) b n c h d) := by
  refine gather_at _ _ _ _ _ fun a => ?_
  match a with
  | ⟨0, _⟩ => show 0 + 0 + b.val = b.val; omega
  | ⟨1, _⟩ =>
    have hs : gather_S24x32x64x16x64_S32x8x1_S24x32x8x64x16x64_0345_1_n_n_1_2_241641664.siIdx (ix6 b r i c h d) ⟨0, by decide⟩ = ix3 r i (0 : Fin 1) := by
      funext b; refine Fin.ext ?_
      match b with
      | ⟨0, _⟩ => rfl
      | ⟨1, _⟩ => rfl
      | ⟨2, _⟩ => rfl
    show min (idx (gather_S24x32x64x16x64_S32x8x1_S24x32x8x64x16x64_0345_1_n_n_1_2_241641664.siIdx (ix6 b r i c h d) ⟨0, by decide⟩)).toInt.toNat (32 - 1) + 0 + 0 = n.val
    rw [hs, hn]
    omega
  | ⟨2, _⟩ => show 0 + 0 + c.val = c.val; omega
  | ⟨3, _⟩ => show 0 + 0 + h.val = h.val; omega
  | ⟨4, _⟩ => show 0 + 0 + d.val = d.val; omega

theorem gather_cols (x : FVec Ideal S24x32x8x64x16x64 .f32) (idx : IVec S64x16x1 32) (b : Fin 24) (r : Fin 32) (i : Fin 8) (c : Fin 64) (j : Fin 16) (h : Fin 16) (d : Fin 64)
    (n : Fin 64) (hn : (idx (ix3 c j (0 : Fin 1))).toInt.toNat = n.val) :
    Host.gather gather_S24x32x8x64x16x64_S64x16x1_S24x32x8x64x16x16x64_01256_3_n_n_3_2_2432811664 x idx (ix7 b r i c j h d)
      = x (ix6 (n0 := 24) (n1 := 32) (n2 := 8) (n3 := 64) (n4 := 16) (n5 := 64) b r i n h d) := by
  refine gather_at _ _ _ _ _ fun a => ?_
  match a with
  | ⟨0, _⟩ => show 0 + 0 + b.val = b.val; omega
  | ⟨1, _⟩ => show 0 + 0 + r.val = r.val; omega
  | ⟨2, _⟩ => show 0 + 0 + i.val = i.val; omega
  | ⟨3, _⟩ =>
    have hs : gather_S24x32x8x64x16x64_S64x16x1_S24x32x8x64x16x16x64_01256_3_n_n_3_2_2432811664.siIdx (ix7 b r i c j h d) ⟨0, by decide⟩ = ix3 c j (0 : Fin 1) := by
      funext b; refine Fin.ext ?_
      match b with
      | ⟨0, _⟩ => rfl
      | ⟨1, _⟩ => rfl
      | ⟨2, _⟩ => rfl
    show min (idx (gather_S24x32x8x64x16x64_S64x16x1_S24x32x8x64x16x16x64_01256_3_n_n_3_2_2432811664.siIdx (ix7 b r i c j h d) ⟨0, by decide⟩)).toInt.toNat (64 - 1) + 0 + 0 = n.val
    rw [hs, hn]
    omega
  | ⟨4, _⟩ => show 0 + 0 + h.val = h.val; omega
  | ⟨5, _⟩ => show 0 + 0 + d.val = d.val; omega

theorem gather_bias (x : FVec Ideal S16x15x31 .f32) (idx : IVec S32x8x64x16x2 32) (h : Fin 16) (r : Fin 32) (i : Fin 8) (c : Fin 64) (j : Fin 16)
    (n : Fin 15) (l : Fin 31) (hn : (idx (ix5 r i c j (0 : Fin 2))).toInt.toNat = n.val) (hl : (idx (ix5 r i c j (1 : Fin 2))).toInt.toNat = l.val) :
    Host.gather gather_S16x15x31_S32x8x64x16x2_S16x32x8x64x16_0_12_n_n_12_4_1611 x idx (ix5 h r i c j)
      = x (ix3 (n0 := 16) (n1 := 15) (n2 := 31) h n l) := by
  refine gather_at _ _ _ _ _ fun a => ?_
  match a with
  | ⟨0, _⟩ => show 0 + 0 + h.val = h.val; omega
  | ⟨1, _⟩ =>
    have hs : gather_S16x15x31_S32x8x64x16x2_S16x32x8x64x16_0_12_n_n_12_4_1611.siIdx (ix5 h r i c j) ⟨0, by decide⟩ = ix5 r i c j (0 : Fin 2) := by
      funext b; refine Fin.ext ?_
      match b with
      | ⟨0, _⟩ => rfl
      | ⟨1, _⟩ => rfl
      | ⟨2, _⟩ => rfl
      | ⟨3, _⟩ => rfl
      | ⟨4, _⟩ => rfl
    show min (idx (gather_S16x15x31_S32x8x64x16x2_S16x32x8x64x16_0_12_n_n_12_4_1611.siIdx (ix5 h r i c j) ⟨0, by decide⟩)).toInt.toNat (15 - 1) + 0 + 0 = n.val
    rw [hs, hn]
    omega
  | ⟨2, _⟩ =>
    have hs : gather_S16x15x31_S32x8x64x16x2_S16x32x8x64x16_0_12_n_n_12_4_1611.siIdx (ix5 h r i c j) ⟨1, by decide⟩ = ix5 r i c j (1 : Fin 2) := by
      funext b; refine Fin.ext ?_
      match b with
      | ⟨0, _⟩ => rfl
      | ⟨1, _⟩ => rfl
      | ⟨2, _⟩ => rfl
      | ⟨3, _⟩ => rfl
      | ⟨4, _⟩ => rfl
    show min (idx (gather_S16x15x31_S32x8x64x16x2_S16x32x8x64x16_0_12_n_n_12_4_1611.siIdx (ix5 h r i c j) ⟨1, by decide⟩)).toInt.toNat (31 - 1) + 0 + 0 = l.val
    rw [hs, hl]
    omega

/-! ### What they read of the arguments -/

/-- A token's row of the arguments: window `b`, row `r`, column `c`. -/
abbrev tok (b : Fin 24) (r : Fin 32) (c : Fin 64) : Fin 49152 := ⟨2048 * b.val + (64 * r.val + c.val), by omega⟩
/-- A head's lane of the arguments. -/
abbrev hlane (h : Fin 16) (d : Fin 64) : Fin 1024 := ⟨64 * h.val + d.val, by omega⟩
/-- The key row at place `i` of the window of row `r`. -/
abbrev nrow (r : Fin 32) (i : Fin 8) : Fin 32 := ⟨row0 r.val + i.val, by unfold row0; omega⟩
/-- The key column at place `j` of the window of column `c`. -/
abbrev ncol (c : Fin 64) (j : Fin 16) : Fin 64 := ⟨col0 c.val + j.val, by unfold col0; omega⟩
/-- The row offset as an index of the bias. -/
abbrev brow (r : Fin 32) (i : Fin 8) : Fin 15 := ⟨row0 r.val + i.val + 7 - r.val, by unfold row0; omega⟩
/-- The column offset as an index of the bias. -/
abbrev bcol (c : Fin 64) (j : Fin 16) : Fin 31 := ⟨col0 c.val + j.val + 15 - c.val, by unfold col0; omega⟩

theorem cast5_at (x : FVec Ideal S49152x1024 .f32) (b : Fin 24) (r : Fin 32) (c : Fin 64) (h : Fin 16) (d : Fin 64) :
    shapeCast S24x32x64x16x64 x shapeCasts_S49152x1024_S24x32x64x16x64 (ix5 b r c h d) = x (ix2 (n0 := 49152) (n1 := 1024) (tok b r c) (hlane h d)) := by
  refine shapeCast_apply x _ _ _ ?_
  rw [Shape.rowMajor_val_two, Shape.rowMajor_val_five]
  show (2048 * b.val + (64 * r.val + c.val)) * 1024 + (64 * h.val + d.val) = (((b.val * 32 + r.val) * 64 + c.val) * 16 + h.val) * 64 + d.val
  omega

variable (x0 x1 x2 : FVec Ideal S49152x1024 .bf16) (x3 : FVec Ideal S16x15x31 .f32)

theorem v1_at (b : Fin 24) (r : Fin 32) (c : Fin 64) (h : Fin 16) (d : Fin 64) :
    val_main_v1 (F := Ideal) x0 (ix5 b r c h d) = x0 (ix2 (n0 := 49152) (n1 := 1024) (tok b r c) (hlane h d)) :=
  cast5_at x0 b r c h d

theorem v49_at (b : Fin 24) (r : Fin 32) (i : Fin 8) (c : Fin 64) (j : Fin 16) (h : Fin 16) (d : Fin 64) :
    val_main_v49 (F := Ideal) x1 (ix7 b r i c j h d) = x1 (ix2 (n0 := 49152) (n1 := 1024) (tok b (nrow r i) (ncol c j)) (hlane h d)) := by
  unfold val_main_v49
  refine (gather_cols _ _ b r i c j h d (ncol c j) (v48_at c j)).trans ?_
  unfold val_main_v42
  exact (gather_rows _ _ b r i (ncol c j) h d (nrow r i) (v41_at r i)).trans (cast5_at x1 b _ _ h d)

theorem v63_at (b : Fin 24) (r : Fin 32) (i : Fin 8) (c : Fin 64) (j : Fin 16) (h : Fin 16) (d : Fin 64) :
    val_main_v63 (F := Ideal) x2 (ix7 b r i c j h d) = x2 (ix2 (n0 := 49152) (n1 := 1024) (tok b (nrow r i) (ncol c j)) (hlane h d)) := by
  unfold val_main_v63
  refine (gather_cols _ _ b r i c j h d (ncol c j) (v62_at c j)).trans ?_
  unfold val_main_v56
  exact (gather_rows _ _ b r i (ncol c j) h d (nrow r i) (v55_at r i)).trans (cast5_at x2 b _ _ h d)

theorem v81_at (h : Fin 16) (r : Fin 32) (i : Fin 8) (c : Fin 64) (j : Fin 16) :
    val_main_v81 (F := Ideal) x3 (ix5 h r i c j) = x3 (ix3 (n0 := 16) (n1 := 15) (n2 := 31) h (brow r i) (bcol c j)) := by
  have e0 := v80_row r i c j
  have e1 := v80_col r i c j
  unfold val_main_v81
  generalize val_main_v80 (F := Ideal) = y at e0 e1 ⊢
  exact gather_bias x3 y h r i c j (brow r i) (bcol c j) e0 e1

end Cert.AttnRefProof

end
-- ==== Proof.AttnRef.lean ====
/-
  The reference's attention at an element: the softmax over the 128 places of the window, the division before the sum,
  times the window's values.
-/
module

public import proofs.«01_k».proof.Proof.AttnRefIdx
public import proofs.«01_k».proof.Proof.AttnMath
public import Idealize.ShloMosaic.Lib.TwoAxisContraction

@[expose] public section

set_option maxRecDepth 16384

noncomputable section

namespace Cert.AttnRefProof

open Cert.AttnRefIdeal Cert.AttnRefIdeal.Gen Cert.AttnRefIdeal.Read Idealize.ShloMosaic
open Idealize.ShloMosaic.ValueIdx Cert.AttnMath
open scoped BigOperators

variable (x0 x1 x2 : FVec Ideal S49152x1024 .bf16) (x3 : FVec Ideal S16x15x31 .f32)

/-- The score of the key at place `(i, j)` of the window: the query times the key, plus the bias. -/
def score (b : Fin 24) (r : Fin 32) (c : Fin 64) (h : Fin 16) (i : Fin 8) (j : Fin 16) : EReal :=
  (∑ d : Fin 64, (x0 (ix2 (n0 := 49152) (n1 := 1024) (tok b r c) (hlane h d)) : EReal)
      * (x1 (ix2 (n0 := 49152) (n1 := 1024) (tok b (nrow r i) (ncol c j)) (hlane h d)) : EReal))
    + (x3 (ix3 (n0 := 16) (n1 := 15) (n2 := 31) h (brow r i) (bcol c j)) : EReal)

/-- The row of place `w` of a window. -/
abbrev wi (w : Fin 128) : Fin 8 := ⟨w.val / 16, by omega⟩
/-- The column of place `w` of a window. -/
abbrev wj (w : Fin 128) : Fin 16 := ⟨w.val % 16, by omega⟩

/-- The scores of a window in one row. -/
def scores (b : Fin 24) (r : Fin 32) (c : Fin 64) (h : Fin 16) (w : Fin 128) : EReal := score x0 x1 x3 b r c h (wi w) (wj w)

theorem v83_at (b : Fin 24) (r : Fin 32) (h : Fin 16) (c : Fin 64) (i : Fin 8) (j : Fin 16) :
    val_main_v83 (F := Ideal) x0 x1 (ix6 b r h c i j) = ∑ d : Fin 64, (x0 (ix2 (n0 := 49152) (n1 := 1024) (tok b r c) (hlane h d)) : EReal)
      * (x1 (ix2 (n0 := 49152) (n1 := 1024) (tok b (nrow r i) (ncol c j)) (hlane h d)) : EReal) := by
  rw [val_main_v83_apply]
  refine Finset.sum_congr rfl fun d _ => ?_
  have hl : lidx_main_v83 (ix6 b r h c i j) d = ix5 (n0 := 24) (n1 := 32) (n2 := 64) (n3 := 16) (n4 := 64) b r c h d := by
    funext a; match a with | ⟨0, _⟩ => rfl | ⟨1, _⟩ => rfl | ⟨2, _⟩ => rfl | ⟨3, _⟩ => rfl | ⟨4, _⟩ => rfl
  have hr : ridx_main_v83 (ix6 b r h c i j) d = ix7 (n0 := 24) (n1 := 32) (n2 := 8) (n3 := 64) (n4 := 16) (n5 := 16) (n6 := 64) b r i c j h d := by
    funext a; match a with | ⟨0, _⟩ => rfl | ⟨1, _⟩ => rfl | ⟨2, _⟩ => rfl | ⟨3, _⟩ => rfl | ⟨4, _⟩ => rfl | ⟨5, _⟩ => rfl | ⟨6, _⟩ => rfl
  have e0 := v1_at x0 b r c h d
  have e1 := v49_at x1 b r i c j h d
  rw [← hl] at e0
  rw [← hr] at e1
  exact congrArg₂ (fun a b : EReal => a * b) e0 e1

theorem v86_at (b : Fin 24) (r : Fin 32) (h : Fin 16) (c : Fin 64) (i : Fin 8) (j : Fin 16) :
    val_main_v86 (F := Ideal) x0 x1 x3 (ix6 b r h c i j) = score x0 x1 x3 b r c h i j := by
  have e : val_main_v85 (F := Ideal) x3 (ix6 b r h c i j) = x3 (ix3 (n0 := 16) (n1 := 15) (n2 := 31) h (brow r i) (bcol c j)) := by
    rw [val_main_v85_apply, val_main_v84_apply, val_main_v82_apply, ← v81_at x3 h r i c j]
    refine congrArg _ ?_
    funext a; match a with | ⟨0, _⟩ => rfl | ⟨1, _⟩ => rfl | ⟨2, _⟩ => rfl | ⟨3, _⟩ => rfl | ⟨4, _⟩ => rfl
  rw [val_main_v86_apply]
  exact congrArg₂ (fun a b : EReal => a + b) (v83_at x0 x1 b r h c i j) e

theorem v87_at (b : Fin 24) (r : Fin 32) (h : Fin 16) (c : Fin 64) (w : Fin 128) :
    val_main_v87 (F := Ideal) x0 x1 x3 (ix5 b r h c w) = scores x0 x1 x3 b r c h w := by
  have e := v86_at x0 x1 x3 b r h c (wi w) (wj w)
  unfold val_main_v87
  generalize val_main_v86 (F := Ideal) x0 x1 x3 = y at e ⊢
  refine (shapeCast_apply y _ _ (ix6 (n0 := 24) (n1 := 32) (n2 := 16) (n3 := 64) (n4 := 8) (n5 := 16) b r h c (wi w) (wj w)) ?_).trans e
  rw [Shape.rowMajor_val_six, Shape.rowMajor_val_five]
  show ((((b.val * 32 + r.val) * 16 + h.val) * 64 + c.val) * 8 + w.val / 16) * 16 + w.val % 16 = (((b.val * 32 + r.val) * 16 + h.val) * 64 + c.val) * 128 + w.val
  omega

theorem ofBits_bot : (FloatOps.ofBits (F := Ideal) .f32 0xFF800000#32 : EReal) = ⊥ := by
  show Ideal.ofBits .f32 0xFF800000#32 = ⊥
  simp [Ideal.ofBits, Ideal.ieee]

theorem v88_at (b : Fin 24) (r : Fin 32) (h : Fin 16) (c : Fin 64) :
    val_main_v88 (F := Ideal) x0 x1 x3 (ix4 b r h c) = mx (scores x0 x1 x3 b r c h) := by
  have e := v87_at x0 x1 x3 b r h c
  unfold val_main_v88
  generalize val_main_v87 (F := Ideal) x0 x1 x3 = y at e ⊢
  have hr : Shape.Reduces S24x32x16x64x128 [4] S24x32x16x64 := by decide
  rw [Host.reduce_eq_fold_single (FloatOps.maximumf (F := Ideal)) y _ reducesTo_S24x32x16x64x128_S24x32x16x64_d4 hr h_S_]
  have hl : ∀ k : Fin 128, hr.lift (ix4 b r h c) k = ix5 b r h c k := by
    intro k; funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  exact congrArg₂ (fun (a : EReal) (f : Fin 128 → EReal) => Finset.univ.fold max a f) ofBits_bot
    (funext fun k => (congrArg y (hl k)).trans (e k))

theorem v92_at (b : Fin 24) (r : Fin 32) (h : Fin 16) (c : Fin 64) (w : Fin 128) :
    val_main_v92 (F := Ideal) x0 x1 x3 (ix5 b r h c w) = mx (scores x0 x1 x3 b r c h) := by
  rw [val_main_v92_apply, val_main_v91_apply, val_main_v90_apply, val_main_v89_apply]
  have hi : idx_main_v91 (idx_main_v92 (ix5 b r h c w)) = ix4 (n0 := 24) (n1 := 32) (n2 := 16) (n3 := 64) b r h c := by
    funext a; match a with | ⟨0, _⟩ => rfl | ⟨1, _⟩ => rfl | ⟨2, _⟩ => rfl | ⟨3, _⟩ => rfl
  rw [hi, v88_at]
  refine (congrArg (fun a : EReal => max a _) ofBits_bot).trans ?_
  exact max_eq_right bot_le

theorem v94_at (b : Fin 24) (r : Fin 32) (h : Fin 16) (c : Fin 64) (w : Fin 128) :
    val_main_v94 (F := Ideal) x0 x1 x3 (ix5 b r h c w)
      = Ideal.exp (scores x0 x1 x3 b r c h w - mx (scores x0 x1 x3 b r c h)) := by
  rw [val_main_v94_apply, val_main_v93_apply, v87_at, v92_at]
  rfl

theorem v97_at (b : Fin 24) (r : Fin 32) (h : Fin 16) (c : Fin 64) (w : Fin 128) :
    val_main_v97 (F := Ideal) x0 x1 x3 (ix5 b r h c w) = den (scores x0 x1 x3 b r c h) := by
  rw [val_main_v97_apply, val_main_v96_apply]
  have hi : idx_main_v96 (idx_main_v97 (ix5 b r h c w)) = ix4 (n0 := 24) (n1 := 32) (n2 := 16) (n3 := 64) b r h c := by
    funext a; match a with | ⟨0, _⟩ => rfl | ⟨1, _⟩ => rfl | ⟨2, _⟩ => rfl | ⟨3, _⟩ => rfl
  rw [hi, val_main_v95_apply]
  refine (congrArg (fun a : EReal => a + _) Ideal.ofBits_zero_f32).trans ((zero_add _).trans ?_)
  refine Finset.sum_congr rfl fun k _ => ?_
  rw [← v94_at]
  refine congrArg _ ?_
  funext a; match a with | ⟨0, _⟩ => rfl | ⟨1, _⟩ => rfl | ⟨2, _⟩ => rfl | ⟨3, _⟩ => rfl | ⟨4, _⟩ => rfl

/-- The weight of place `w`. -/
def weight (b : Fin 24) (r : Fin 32) (c : Fin 64) (h : Fin 16) (w : Fin 128) : EReal :=
  Ideal.div (Ideal.exp (scores x0 x1 x3 b r c h w - mx (scores x0 x1 x3 b r c h))) (den (scores x0 x1 x3 b r c h))

theorem v98_at (b : Fin 24) (r : Fin 32) (h : Fin 16) (c : Fin 64) (w : Fin 128) :
    val_main_v98 (F := Ideal) x0 x1 x3 (ix5 b r h c w) = weight x0 x1 x3 b r c h w := by
  rw [val_main_v98_apply, v94_at, v97_at]
  rfl

theorem v99_at (b : Fin 24) (r : Fin 32) (h : Fin 16) (c : Fin 64) (i : Fin 8) (j : Fin 16) :
    val_main_v99 (F := Ideal) x0 x1 x3 (ix6 b r h c i j) = weight x0 x1 x3 b r c h ⟨16 * i.val + j.val, by omega⟩ := by
  have e := v98_at x0 x1 x3 b r h c ⟨16 * i.val + j.val, by omega⟩
  unfold val_main_v99
  generalize val_main_v98 (F := Ideal) x0 x1 x3 = y at e ⊢
  refine (shapeCast_apply y _ _ (ix5 (n0 := 24) (n1 := 32) (n2 := 16) (n3 := 64) (n4 := 128) b r h c ⟨16 * i.val + j.val, by omega⟩) ?_).trans e
  rw [Shape.rowMajor_val_six, Shape.rowMajor_val_five]
  show (((b.val * 32 + r.val) * 16 + h.val) * 64 + c.val) * 128 + (16 * i.val + j.val) = ((((b.val * 32 + r.val) * 16 + h.val) * 64 + c.val) * 8 + i.val) * 16 + j.val
  omega

/-- The dimension numbers of the product with the values. -/
abbrev dotV := dot_S24x32x16x64x8x16_S24x32x8x64x16x16x64_S24x32x64x16x64_45_24_n_6_0132_0135

theorem dotV_lhs (b : Fin 24) (r : Fin 32) (c : Fin 64) (h : Fin 16) (d : Fin 64) (q : dotV.contr.Idx) (i : Fin 8) (j : Fin 16)
    (hi : (q ⟨0, by decide⟩).val = i.val) (hj : (q ⟨1, by decide⟩).val = j.val) :
    dotV.lhsIdx (ix5 b r c h d) q = ix6 (n0 := 24) (n1 := 32) (n2 := 16) (n3 := 64) (n4 := 8) (n5 := 16) b r h c i j := by
  funext a; refine Fin.ext ?_
  match a with
  | ⟨0, _⟩ => rfl
  | ⟨1, _⟩ => rfl
  | ⟨2, _⟩ => rfl
  | ⟨3, _⟩ => rfl
  | ⟨4, _⟩ => exact hi
  | ⟨5, _⟩ => exact hj

theorem dotV_rhs (b : Fin 24) (r : Fin 32) (c : Fin 64) (h : Fin 16) (d : Fin 64) (q : dotV.contr.Idx) (i : Fin 8) (j : Fin 16)
    (hi : (q ⟨0, by decide⟩).val = i.val) (hj : (q ⟨1, by decide⟩).val = j.val) :
    dotV.rhsIdx (ix5 b r c h d) q = ix7 (n0 := 24) (n1 := 32) (n2 := 8) (n3 := 64) (n4 := 16) (n5 := 16) (n6 := 64) b r i c j h d := by
  funext a; refine Fin.ext ?_
  match a with
  | ⟨0, _⟩ => rfl
  | ⟨1, _⟩ => rfl
  | ⟨2, _⟩ => exact hi
  | ⟨3, _⟩ => rfl
  | ⟨4, _⟩ => exact hj
  | ⟨5, _⟩ => rfl
  | ⟨6, _⟩ => rfl

theorem v100_at (b : Fin 24) (r : Fin 32) (c : Fin 64) (h : Fin 16) (d : Fin 64) :
    val_main_v100 (F := Ideal) x0 x1 x2 x3 (ix5 b r c h d)
      = ∑ w : Fin 128, weight x0 x1 x3 b r c h w * (x2 (ix2 (n0 := 49152) (n1 := 1024) (tok b (nrow r (wi w)) (ncol c (wj w))) (hlane h d)) : EReal) := by
  have e0 := v99_at x0 x1 x3 b r h c
  have e1 := fun i j => v63_at x2 b r i c j h d
  unfold val_main_v100
  generalize val_main_v99 (F := Ideal) x0 x1 x3 = y0 at e0 ⊢
  generalize val_main_v63 (F := Ideal) x2 = y1 at e1 ⊢
  simp only [Host.dotGeneral]
  rw [Ideal.dotGeneral_apply, sum_contr2 dotV 8 16 rfl rfl rfl,
    ← Equiv.sum_comp (finProdFinEquiv (m := 8) (n := 16)) (fun w : Fin 128 => weight x0 x1 x3 b r c h w * (x2 (ix2 (n0 := 49152) (n1 := 1024) (tok b (nrow r (wi w)) (ncol c (wj w))) (hlane h d)) : EReal)),
    Fintype.sum_prod_type]
  refine Finset.sum_congr rfl fun i _ => Finset.sum_congr rfl fun j _ => ?_
  have q0 := contrEquiv2_symm_val0 dotV 8 16 rfl rfl rfl (i, j)
  have q1 := contrEquiv2_symm_val1 dotV 8 16 rfl rfl rfl (i, j)
  rw [dotV_lhs b r c h d _ i j q0 q1, dotV_rhs b r c h d _ i j q0 q1]
  have hw : (finProdFinEquiv (m := 8) (n := 16) (i, j) : Fin 128) = ⟨16 * i.val + j.val, by omega⟩ := Fin.ext (by
    show j.val + 16 * i.val = 16 * i.val + j.val
    omega)
  have hwi : wi ⟨16 * i.val + j.val, by omega⟩ = i := Fin.ext (by show (16 * i.val + j.val) / 16 = i.val; omega)
  have hwj : wj ⟨16 * i.val + j.val, by omega⟩ = j := Fin.ext (by show (16 * i.val + j.val) % 16 = j.val; omega)
  rw [hw, hwi, hwj]
  exact congrArg₂ (fun a b : EReal => a * b) (e0 i j) (e1 i j)

/-- The reference's result at an element. -/
theorem ref_at (b : Fin 24) (r : Fin 32) (c : Fin 64) (h : Fin 16) (d : Fin 64) :
    val_main_v102 (F := Ideal) x0 x1 x2 x3 (ix2 (n0 := 49152) (n1 := 1024) (tok b r c) (hlane h d))
      = ∑ w : Fin 128, weight x0 x1 x3 b r c h w * (x2 (ix2 (n0 := 49152) (n1 := 1024) (tok b (nrow r (wi w)) (ncol c (wj w))) (hlane h d)) : EReal) := by
  rw [val_main_v102_apply, ← v100_at]
  unfold val_main_v101
  generalize val_main_v100 (F := Ideal) x0 x1 x2 x3 = y
  refine shapeCast_apply y _ _ (ix5 (n0 := 24) (n1 := 32) (n2 := 64) (n3 := 16) (n4 := 64) b r c h d) ?_
  rw [Shape.rowMajor_val_two, Shape.rowMajor_val_five]
  show (((b.val * 32 + r.val) * 64 + c.val) * 16 + h.val) * 64 + d.val = (2048 * b.val + (64 * r.val + c.val)) * 1024 + (64 * h.val + d.val)
  omega

end Cert.AttnRefProof

end
-- ==== Proof.Finite.lean ====
/-
  What the preconditions say: an element whose absolute value is below infinity is a real number.
-/
module

public import Idealize.ShloMosaic.Lib.StableHlo
public import Idealize.ShloMosaic.PureOps
public import Idealize.ShloMosaic.PureOps.Ideal.Laws

@[expose] public section

noncomputable section

namespace Cert.Finite

open Idealize.ShloMosaic

/-- The pattern of positive infinity is the top element. -/
theorem ofBits_inf : Ideal.ofBits .f32 0x7F800000#32 = ⊤ := by simp [Ideal.ofBits, Ideal.ieee]

/-- The pattern of negative infinity is the bottom element. -/
theorem ofBits_neg_inf : Ideal.ofBits .f32 0xFF800000#32 = ⊥ := by simp [Ideal.ofBits, Ideal.ieee]

/-- An element below infinity in absolute value is a real number. -/
theorem real_of_abs_lt {s : Shape} (x : FVec Ideal s .f32) (d : Fin 0 → Fin s.rank) (h : (⟨0, ![]⟩ : Shape).BroadcastsInDim s d)
    (e : cmpf .olt (Host.absf x) (broadcastInDim s d h (constant (F := Ideal) ⟨0, ![]⟩ .f32 0x7F800000#32)) = fun _ => 1#1) (i : s.Idx) :
    ∃ b : ℝ, x i = b := by
  have e1 : Ideal.cmp .olt (max (x i) (-(x i))) (Ideal.ofBits .f32 0x7F800000#32) = 1#1 := congrFun e i
  rw [ofBits_inf] at e1
  have e2 : max (x i) (-(x i)) < ⊤ := by
    by_contra hn
    simp [Ideal.cmp, hn] at e1
  obtain ⟨y, hy⟩ : ∃ y : EReal, x i = y := ⟨_, rfl⟩
  rw [hy] at e2 ⊢
  induction y with
  | bot => exact absurd e2 (by simp)
  | top => exact absurd e2 (by simp)
  | coe b => exact ⟨b, rfl⟩

end Cert.Finite

end
-- ==== Proof.AttnValue.lean ====
/-
  The attention's value claim: at finite queries, keys and biases, the kernel's banded softmax over 512 keys with minus
  infinity outside the window is the reference's softmax over the window's 128 keys.
-/
module

public import proofs.«01_k».proof.Defs
public import proofs.«01_k».proof.Proof.AttnFinal
public import proofs.«01_k».proof.Proof.AttnTable
public import proofs.«01_k».proof.Proof.AttnRef
public import proofs.«01_k».proof.Proof.Finite
public import proofs.«01_k».proof.Proof.Gen.AttnRefIdeal.Run
public import Idealize.ShloMosaic.Lib.StableHlo.RunRead

@[expose] public section

set_option maxRecDepth 16384

noncomputable section

namespace Cert.AttnProof

open Cert.AttnIdeal Cert.AttnIdeal.Gen Idealize.ShloMosaic Idealize.ShloMosaic.TcCoe Idealize.SL.Sem
open Idealize.ShloMosaic.ValueIdx
open Cert.AttnRefIdeal.Read
open Cert.AttnRefProof (tok hlane nrow ncol brow bcol wi wj row0 col0 score scores weight)
open Cert.AttnMath
open scoped BigOperators

/-- The sum of products of finite numbers, plus a finite number, is finite. -/
theorem dot_real {n : Nat} (f g : Fin n → EReal) (e : EReal) (hf : ∀ k, ∃ b : ℝ, f k = b) (hg : ∀ k, ∃ b : ℝ, g k = b) (he : ∃ b : ℝ, e = b) :
    ∃ b : ℝ, (∑ k, f k * g k) + e = b := by
  choose a ha using hf
  choose b hb using hg
  obtain ⟨e', rfl⟩ := he
  refine ⟨(∑ k, a k * b k) + e', ?_⟩
  rw [EReal.coe_add, ← coe_sum]
  refine congrArg (· + _) (Finset.sum_congr rfl fun k _ => ?_)
  rw [ha, hb, EReal.coe_mul]

/-- Place `w` of column `c`'s window, as a key of the band. -/
def place (c : Fin 64) (w : Fin 128) : Fin 512 := ⟨64 * (w.val / 16) + (col0 c.val + w.val % 16), by unfold col0; omega⟩

theorem place_inj (c : Fin 64) : Function.Injective (place c) := by
  intro w w' h
  have h' : 64 * (w.val / 16) + (col0 c.val + w.val % 16) = 64 * (w'.val / 16) + (col0 c.val + w'.val % 16) := congrArg Fin.val h
  unfold col0 at h'
  refine Fin.ext ?_
  omega

theorem place_div (c : Fin 64) (w : Fin 128) : (place c w).val / 64 = w.val / 16 := by
  show (64 * (w.val / 16) + (col0 c.val + w.val % 16)) / 64 = _
  unfold col0; omega
theorem place_mod (c : Fin 64) (w : Fin 128) : (place c w).val % 64 = col0 c.val + w.val % 16 := by
  show (64 * (w.val / 16) + (col0 c.val + w.val % 16)) % 64 = _
  unfold col0; omega

section
variable (q ky v : FVec Ideal S49152x1024 .bf16) (x : FVec Ideal S16x15x31 .f32) (B : S8x2x8x64x512.Idx → EReal)
  (hB : ∀ (p : Fin 8) (hh : Fin 2) (h : Fin 16) (_ : h.val = 2 * p.val + hh.val) (e : Fin 8) (r : Fin 64) (kk : Fin 512) (n : Fin 15) (j : Fin 31)
    (_ : kk.val / 64 + 7 - e.val = n.val) (_ : min (kk.val % 64 + 15 - r.val) 30 = j.val),
    B (ix5 (n0 := 8) (n1 := 2) (n2 := 8) (n3 := 64) (n4 := 512) p hh e r kk)
      = if c0 r.val ≤ kk.val % 64 ∧ kk.val % 64 < c0 r.val + 16 then (x (ix3 (n0 := 16) (n1 := 15) (n2 := 31) h n j) : EReal) else ⊥)
include hB

/-- Inside the window the band's bias is the parameter at the window's offsets. -/
theorem bias_in (r : Fin 32) (c : Fin 64) (h : Fin 16) (w : Fin 128) :
    B (ix5 (n0 := 8) (n1 := 2) (n2 := 8) (n3 := 64) (n4 := 512) ⟨h.val / 2, by omega⟩ ⟨h.val % 2, by omega⟩ (dlt r) c (place c w))
      = x (ix3 (n0 := 16) (n1 := 15) (n2 := 31) h (brow r (wi w)) (bcol c (wj w))) := by
  have hd := place_div c w
  have hm := place_mod c w
  refine (hB _ _ h ?_ _ _ _ (brow r (wi w)) (bcol c (wj w)) ?_ ?_).trans (if_pos ?_)
  · show h.val = 2 * (h.val / 2) + h.val % 2
    omega
  · show (place c w).val / 64 + 7 - (r.val - r0 r.val) = row0 r.val + w.val / 16 + 7 - r.val
    rw [hd]; unfold r0 row0; omega
  · show min ((place c w).val % 64 + 15 - c.val) 30 = col0 c.val + w.val % 16 + 15 - c.val
    rw [hm]; unfold col0; omega
  · rw [hm]; unfold c0 col0; omega

/-- Outside the window the band's bias is minus infinity. -/
theorem bias_out (r : Fin 32) (c : Fin 64) (h : Fin 16) (kk : Fin 512) (hk : kk ∉ Set.range (place c)) :
    B (ix5 (n0 := 8) (n1 := 2) (n2 := 8) (n3 := 64) (n4 := 512) ⟨h.val / 2, by omega⟩ ⟨h.val % 2, by omega⟩ (dlt r) c kk) = ⊥ := by
  refine (hB _ _ h ?_ _ _ _ ⟨kk.val / 64 + 7 - (r.val - r0 r.val), by omega⟩ ⟨min (kk.val % 64 + 15 - c.val) 30, by omega⟩ rfl rfl).trans (if_neg ?_)
  · show h.val = 2 * (h.val / 2) + h.val % 2
    omega
  · intro hc
    refine hk ⟨⟨16 * (kk.val / 64) + (kk.val % 64 - c0 c.val), by omega⟩, Fin.ext ?_⟩
    show 64 * ((16 * (kk.val / 64) + (kk.val % 64 - c0 c.val)) / 16) + (col0 c.val + (16 * (kk.val / 64) + (kk.val % 64 - c0 c.val)) % 16) = kk.val
    unfold c0 at hc ⊢
    unfold col0
    omega

omit hB in
/-- The key at a place of the window is the reference's. -/
theorem key_row (b : Fin 24) (r : Fin 32) (c : Fin 64) (w : Fin 128) : gRow b (keyRow r (place c w)) = tok b (nrow r (wi w)) (ncol c (wj w)) := by
  refine Fin.ext ?_
  show 2048 * b.val + (64 * r0 r.val + (64 * (w.val / 16) + (col0 c.val + w.val % 16)))
    = 2048 * b.val + (64 * (row0 r.val + w.val / 16) + (col0 c.val + w.val % 16))
  unfold r0 row0; omega

theorem attn_eq (hq : ∀ i, ∃ b : ℝ, (q i : EReal) = b) (hk : ∀ i, ∃ b : ℝ, (ky i : EReal) = b) (hx : ∀ i, ∃ b : ℝ, (x i : EReal) = b)
    (b : Fin 24) (r : Fin 32) (c : Fin 64) (h : Fin 16) (d : Fin 64) :
    attnAt q ky v B b r c h d
      = ∑ w : Fin 128, weight q ky x b r c h w * (v (ix2 (n0 := 49152) (n1 := 1024) (tok b (nrow r (wi w)) (ncol c (wj w))) (hlane h d)) : EReal) := by
  have hin : ∀ w : Fin 128, (∑ d' : Fin 64, (q (ix2 (n0 := 49152) (n1 := 1024) (gRow b (qRow r c)) (gCol h d')) : EReal)
        * (ky (ix2 (n0 := 49152) (n1 := 1024) (gRow b (keyRow r (place c w))) (gCol h d')) : EReal))
      + B (ix5 (n0 := 8) (n1 := 2) (n2 := 8) (n3 := 64) (n4 := 512) ⟨h.val / 2, by omega⟩ ⟨h.val % 2, by omega⟩ (dlt r) c (place c w))
      = scores q ky x b r c h w := by
    intro w
    rw [bias_in x B hB r c h w, key_row b r c w]
    rfl
  unfold attnAt
  refine (smR_window (n := 128) (N := 512) (by decide) (place c) (place_inj c) _ _ (scores q ky x b r c h) hin ?_ ?_).trans ?_
  · intro kk hkk
    rw [bias_out x B hB r c h kk hkk]
    exact EReal.add_bot _
  · intro w
    exact dot_real _ _ _ (fun _ => hq _) (fun _ => hk _) (hx _)
  · refine Finset.sum_congr rfl fun w _ => ?_
    rw [key_row b r c w]
    rfl

end

variable (m : (ℓ : Loc nD τ sig) → Buf (Elt Ideal) ℓ)

/-- The array the kernel leaves is the reference's. -/
theorem value (c : Dev nD)
    (hq : ∀ i : S49152x1024.Idx, ∃ b : ℝ, @Eq EReal (m ((c : Thread nD τ).loc main_arg0) i) b)
    (hk : ∀ i : S49152x1024.Idx, ∃ b : ℝ, @Eq EReal (m ((c : Thread nD τ).loc main_arg1) i) b)
    (hx : ∀ i : S16x15x31.Idx, ∃ b : ℝ, @Eq EReal (m ((c : Thread nD τ).loc main_arg3) i) b) :
    (dats m 0 c).arrAt 4 cfg0.N
      = val_main_v102 (F := Ideal) (m ((c : Thread nD τ).loc main_arg0)) (m ((c : Thread nD τ).loc main_arg1)) (m ((c : Thread nD τ).loc main_arg2))
          (m ((c : Thread nD τ).loc main_arg3)) := by
  rw [final m c]
  show attnArr (V m c main_arg0) (V m c main_arg1) (V m c main_arg2) (V m c main_v56) = _
  rw [V_main_arg0 m c, V_main_arg1 m c, V_main_arg2 m c, V_v56 m c]
  generalize (m ((c : Thread nD τ).loc main_arg0)) = q at hq ⊢
  generalize (m ((c : Thread nD τ).loc main_arg1)) = k at hk ⊢
  generalize (m ((c : Thread nD τ).loc main_arg2)) = v
  generalize (m ((c : Thread nD τ).loc main_arg3)) = x at hx ⊢
  have key : ∀ (b : Fin 24) (r : Fin 32) (cc : Fin 64) (h : Fin 16) (d : Fin 64),
      attnArr q k v (shapeCast S8x2x8x64x512 (table5 x) shapeCasts_S16x8x64x8x64_S8x2x8x64x512) (ix2 (n0 := 49152) (n1 := 1024) (tok b r cc) (hlane h d))
        = val_main_v102 (F := Ideal) q k v x (ix2 (n0 := 49152) (n1 := 1024) (tok b r cc) (hlane h d)) := fun b r cc h d =>
    (attnArr_at q k v _ b r cc h d _ rfl rfl).trans
      ((attn_eq q k v x _ (fun p hh h' hp e r' kk n j hn hj => bias_apply x p hh h' hp e r' kk n j hn hj) hq hk hx b r cc h d).trans
        (Cert.AttnRefProof.ref_at q k v x b r cc h d).symm)
  generalize attnArr q k v (shapeCast S8x2x8x64x512 (table5 x) shapeCasts_S16x8x64x8x64_S8x2x8x64x512) = a at key ⊢
  generalize val_main_v102 (F := Ideal) q k v x = a' at key ⊢
  refine funext fun i => ?_
  have h0 : (i 0).val < 49152 := (i 0).isLt
  have h1 : (i 1).val < 1024 := (i 1).isLt
  have hi : i = ix2 (n0 := 49152) (n1 := 1024)
      (tok ⟨(i 0).val / 2048, by omega⟩ ⟨(i 0).val % 2048 / 64, by omega⟩ ⟨(i 0).val % 64, by omega⟩)
      (hlane ⟨(i 1).val / 64, by omega⟩ ⟨(i 1).val % 64, by omega⟩) := by
    funext a
    match a with
    | ⟨0, _⟩ =>
      refine Fin.ext ?_
      show (i 0).val = 2048 * ((i 0).val / 2048) + (64 * ((i 0).val % 2048 / 64) + (i 0).val % 64)
      omega
    | ⟨1, _⟩ =>
      refine Fin.ext ?_
      show (i 1).val = 64 * ((i 1).val / 64) + (i 1).val % 64
      omega
  rw [hi]
  exact key _ _ _ _ _

theorem preFacts : Cert.Pre_finite_scores.Facts where
  bitsLt_bf16_f32 := by decide
  bcast_S_S49152x1024 := by decide
  bcast_S_S16x15x31 := by decide

/-- From equal arguments, the queries, keys and biases finite, the idealized attention kernel and its idealized reference
    leave the same array. -/
theorem algebraic : Cert.algebraic_AttnIdeal_AttnRefIdeal_pre_finite_scores (hPre_finite_scores := preFacts) := fun m ρ m' ρ' hpre hag =>
  ⟨fun c => val_main_v102 (F := Ideal) (m ((c : Thread nD τ).loc main_arg0)) (m ((c : Thread nD τ).loc main_arg1)) (m ((c : Thread nD τ).loc main_arg2))
      (m ((c : Thread nD τ).loc main_arg3)),
    (θ_run _ _ _).mono (fun _ h c => ⟨(h c).1.trans (value m c
        (fun i => Cert.Finite.real_of_abs_lt _ _ _ (hpre c).1 i) (fun i => Cert.Finite.real_of_abs_lt _ _ _ (hpre c).2.1 i)
        (fun i => Cert.Finite.real_of_abs_lt _ _ _ (hpre c).2.2 i)), (h c).2⟩)
      (Cert.AttnIdeal.Value.run_blocks m ρ),
    (θ_run _ _ _).mono (fun _ h c => by
      obtain ⟨h0, h1, h2, h3⟩ := hag c
      refine ⟨(h c).1.trans ?_, (h c).2⟩
      rw [val_main_v102_eq]
      exact congr (congr (congr (congrArg _ h0) h1) h2) h3) (Cert.AttnRefIdeal.Value.run m' ρ')⟩

end Cert.AttnProof

end
-- ==== Proof.FfnKernel.lean ====
/-
  The feed-forward kernel's result array as ONE function of its four operand arrays: for each expert `e`, row `r` and
  column `d`, the sum over the 2048 hidden units of the gated hidden value times the down-projection's weight.
-/
module

public import proofs.«01_k».proof.Proof.Gen.FfnIdeal.Value
public import Idealize.ShloMosaic.Lib.MatmulPlain
public import Idealize.ShloMosaic.Lib.ValueIdx
public import Idealize.ShloMosaic.PureOps.Ideal.Laws

@[expose] public section

set_option maxRecDepth 16384

noncomputable section

namespace Cert.FfnProof

open Cert.FfnIdeal Cert.FfnIdeal.Gen Idealize.ShloMosaic Idealize.ShloMosaic.TcCoe Idealize.SL.Sem
open Idealize.ShloMosaic.ValueIdx
open Idealize.ShloMosaic.Pipeline (Dat)
open scoped BigOperators

/-- The gated hidden value of expert `e` at row `r` and hidden unit `f`: `(g · σ(g)) · u` with `g` and `u` the row's
    products with the gate's and the up-projection's columns. -/
def hid (X : S16x6144x1024.Idx → EReal) (wg wu : S16x1024x2048.Idx → EReal) (e : Fin 16) (r : Fin 6144) (f : Fin 2048) : EReal :=
  (∑ k : Fin 1024, X (ix3 e r k) * wg (ix3 e k f)) * Ideal.logistic (∑ k : Fin 1024, X (ix3 e r k) * wg (ix3 e k f))
    * (∑ k : Fin 1024, X (ix3 e r k) * wu (ix3 e k f))

/-- The gated feed-forward layer of every expert on its rows. -/
def G (X : S16x6144x1024.Idx → EReal) (wg wu : S16x1024x2048.Idx → EReal) (wd : S16x2048x1024.Idx → EReal) :
    S16x6144x1024.Idx → EReal :=
  fun i => ∑ f : Fin 2048, hid X wg wu (i 0) (i 1) f * wd (ix3 (i 0) f (i 2))

/-- Dropping a block's leading unit axis reads the block at row 0 of it. -/
theorem drop3 {n1 n2 : Nat} {α : Type} (v : (⟨3, ![1, n1, n2]⟩ : Shape).Idx → α)
    (h : (⟨3, ![1, n1, n2]⟩ : Shape).ShapeCasts ⟨2, ![n1, n2]⟩) (a : Fin n1) (b : Fin n2) :
    shapeCast ⟨2, ![n1, n2]⟩ v h (ix2 a b) = v (ix3 0 a b) := by
  refine (shapeCast_dropUnit_apply ![n1, n2] v h (ix2 a b)).trans (congrArg v ?_)
  exact funext fun x => match x with | ⟨0, _⟩ => rfl | ⟨1, _⟩ => rfl | ⟨2, _⟩ => rfl

/-- Adding a leading unit axis reads the value at the other coordinates. -/
theorem add3 {n1 n2 : Nat} {α : Type} (v : (⟨2, ![n1, n2]⟩ : Shape).Idx → α)
    (h : (⟨2, ![n1, n2]⟩ : Shape).ShapeCasts ⟨3, ![1, n1, n2]⟩) (u : Fin 1) (a : Fin n1) (b : Fin n2) :
    shapeCast ⟨3, ![1, n1, n2]⟩ v h (ix3 u a b) = v (ix2 a b) := by
  refine (shapeCast_addUnit_apply ![n1, n2] v h (ix3 u a b)).trans (congrArg v ?_)
  exact funext fun x => match x with | ⟨0, _⟩ => rfl | ⟨1, _⟩ => rfl

/-- The kernel body's stored block at (0, r, d), from the four loaded blocks. -/
theorem pay_apply (x : Vec Ideal S1x512x1024 .bf16) (wg wu : Vec Ideal S1x1024x2048 .bf16) (wd : Vec Ideal S1x2048x1024 .bf16)
    (r : Fin 512) (d : Fin 1024) :
    k0_pay1 (F := Ideal) x wg wu wd (ix3 0 r d)
      = ∑ f : Fin 2048, ((∑ k : Fin 1024, x (ix3 0 r k) * wg (ix3 0 k f)) * Ideal.logistic (∑ k : Fin 1024, x (ix3 0 r k) * wg (ix3 0 k f))
          * (∑ k : Fin 1024, x (ix3 0 r k) * wu (ix3 0 k f))) * wd (ix3 0 f d) := by
  have hp : dot_S512x1024_S1024x2048_S512x2048_1_0_0_1_n_n = DotDims.plain 512 1024 2048 := rfl
  have hq : dot_S512x2048_S2048x1024_S512x1024_1_0_0_1_n_n = DotDims.plain 512 2048 1024 := rfl
  have mm : ∀ (w : Vec Ideal S1x1024x2048 .bf16) (f : Fin 2048),
      FloatOps.matmul (DotDims.plain 512 1024 2048) none (shapeCast S512x1024 x shapeCasts_S1x512x1024_S512x1024 : FVec Ideal S512x1024 .bf16)
        (shapeCast S1024x2048 w shapeCasts_S1x1024x2048_S1024x2048 : FVec Ideal S1024x2048 .bf16) (constant (F := Ideal) S512x2048 .f32 0x00000000#32) (ix2 r f)
      = ∑ k : Fin 1024, x (ix3 0 r k) * w (ix3 0 k f) := fun w f => by
    rw [Ideal.matmul_plain_apply, constant_apply, Ideal.ofBits_zero_f32, zero_add]
    exact Finset.sum_congr rfl fun k _ => congrArg₂ (· * ·) (drop3 _ _ _ _) (drop3 _ _ _ _)
  unfold k0_pay1
  dsimp only [matmul]
  rw [hp, hq]
  refine (add3 _ _ _ _ _).trans ?_
  rw [Ideal.matmul_plain_apply, constant_apply, Ideal.ofBits_zero_f32, zero_add]
  refine Finset.sum_congr rfl fun f _ => congrArg₂ (· * ·) ?_ (drop3 _ _ _ _)
  refine Eq.trans ?_ (congrArg₂ (· * ·) (congrArg₂ (· * ·) (mm wg f) (congrArg Ideal.logistic (mm wg f))) (mm wu f))
  rfl

variable (m : (ℓ : Loc nD τ sig) → Buf (Elt Ideal) ℓ) (ρ : Dev nD → PrngReg)

/-- The result array: the layer of the operand arrays the region finds. -/
abbrev Gm (c : Dev nD) : Buf (Elt Ideal) ((c : Thread nD τ).loc main_v34) :=
  G (V m c main_v33) (V m c main_v0) (V m c main_v1) (V m c main_v2)

theorem hz3 : (![0, 0, 0] : Fin 3 → Nat) = fun _ => 0 := funext fun a => by fin_cases a <;> rfl

/-- The four input windows' block indices at a grid point, from the output window's. -/
theorem idx_facts : ∀ t : Fin cfg0.N, (∀ a, win0_0.index t a = win0_4.index t a)
    ∧ win0_1.index t 0 = win0_4.index t 0 ∧ win0_1.index t 1 = 0 ∧ win0_1.index t 2 = 0
    ∧ win0_2.index t 0 = win0_4.index t 0 ∧ win0_2.index t 1 = 0 ∧ win0_2.index t 2 = 0
    ∧ win0_3.index t 0 = win0_4.index t 0 ∧ win0_3.index t 1 = 0 ∧ win0_3.index t 2 = 0
    ∧ win0_4.index t 2 = 0 ∧ win0_4.index t 0 < 16 ∧ win0_4.index t 1 < 12 :=
  (by decide +kernel : ∀ t : Fin grid0.N, (∀ a, win0_0.index t a = win0_4.index t a)
    ∧ win0_1.index t 0 = win0_4.index t 0 ∧ win0_1.index t 1 = 0 ∧ win0_1.index t 2 = 0
    ∧ win0_2.index t 0 = win0_4.index t 0 ∧ win0_2.index t 1 = 0 ∧ win0_2.index t 2 = 0
    ∧ win0_3.index t 0 = win0_4.index t 0 ∧ win0_3.index t 1 = 0 ∧ win0_3.index t 2 = 0
    ∧ win0_4.index t 2 = 0 ∧ win0_4.index t 0 < 16 ∧ win0_4.index t 1 < 12)

/-- What grid point `t` writes back is block `t` of the layer's result. -/
theorem flushed_eq (c : Dev nD) (t : Fin cfg0.N) :
    (dats m 0 c).flushed 4 t = ((cfg0.win 4).blk t).view.read (Elt Ideal) (Gm m c) := by
  rw [Value.flushed4]
  unfold out0_4
  rw [View.canon_unit_zero hz3, View.ld_unit_zero hz3, View.ld_unit_zero hz3, View.ld_unit_zero hz3, View.ld_unit_zero hz3]
  obtain ⟨h0, h10, h11, h12, h20, h21, h22, h30, h31, h32, h42, hlt0, hlt1⟩ := idx_facts t
  have g1 := h0 1
  have g2 := h0 2
  have g0 := h0 0
  clear h0
  funext y
  obtain ⟨u, r, d, rfl⟩ : ∃ (u : Fin 1) (r : Fin 512) (d : Fin 1024), y = ix3 u r d := ⟨_, _, _, eq_ix3 y⟩
  obtain rfl : u = 0 := Subsingleton.elim _ _
  have e0 : ((0 : Fin 1) : ℕ) = 0 := rfl
  refine (pay_apply _ _ _ _ r d).trans ?_
  show _ = G _ _ _ _ _
  unfold G hid
  have hx : ∀ k : Fin 1024, iblk m c 0 t (ix3 (0 : Fin 1) r k)
      = V m c main_v33 (ix3 (n0 := 16) (n1 := 6144) (n2 := 1024) ⟨win0_4.index t 0, by omega⟩ ⟨win0_4.index t 1 * 512 + r.val, by omega⟩ k) := fun k => by
    show V m c main_v33 _ = _
    refine congrArg _ (funext fun a => Fin.ext ?_)
    match a with
    | ⟨0, _⟩ => show win0_0.index t 0 * 1 + 1 * 0 = win0_4.index t 0; omega
    | ⟨1, _⟩ => show win0_0.index t 1 * 512 + 1 * r.val = win0_4.index t 1 * 512 + r.val; omega
    | ⟨2, _⟩ => show win0_0.index t 2 * 1024 + 1 * k.val = k.val; omega
  have hg : ∀ (k : Fin 1024) (f : Fin 2048), iblk m c 1 t (ix3 (0 : Fin 1) k f)
      = V m c main_v0 (ix3 (n0 := 16) (n1 := 1024) (n2 := 2048) ⟨win0_4.index t 0, by omega⟩ k f) := fun k f => by
    show V m c main_v0 _ = _
    refine congrArg _ (funext fun a => Fin.ext ?_)
    match a with
    | ⟨0, _⟩ => show win0_1.index t 0 * 1 + 1 * 0 = win0_4.index t 0; omega
    | ⟨1, _⟩ => show win0_1.index t 1 * 1024 + 1 * k.val = k.val; omega
    | ⟨2, _⟩ => show win0_1.index t 2 * 2048 + 1 * f.val = f.val; omega
  have hu : ∀ (k : Fin 1024) (f : Fin 2048), iblk m c 2 t (ix3 (0 : Fin 1) k f)
      = V m c main_v1 (ix3 (n0 := 16) (n1 := 1024) (n2 := 2048) ⟨win0_4.index t 0, by omega⟩ k f) := fun k f => by
    show V m c main_v1 _ = _
    refine congrArg _ (funext fun a => Fin.ext ?_)
    match a with
    | ⟨0, _⟩ => show win0_2.index t 0 * 1 + 1 * 0 = win0_4.index t 0; omega
    | ⟨1, _⟩ => show win0_2.index t 1 * 1024 + 1 * k.val = k.val; omega
    | ⟨2, _⟩ => show win0_2.index t 2 * 2048 + 1 * f.val = f.val; omega
  have hd : ∀ (f : Fin 2048), iblk m c 3 t (ix3 (0 : Fin 1) f d)
      = V m c main_v2 (ix3 (n0 := 16) (n1 := 2048) (n2 := 1024) ⟨win0_4.index t 0, by omega⟩ f d) := fun f => by
    show V m c main_v2 _ = _
    refine congrArg _ (funext fun a => Fin.ext ?_)
    match a with
    | ⟨0, _⟩ => show win0_3.index t 0 * 1 + 1 * 0 = win0_4.index t 0; omega
    | ⟨1, _⟩ => show win0_3.index t 1 * 2048 + 1 * f.val = f.val; omega
    | ⟨2, _⟩ => show win0_3.index t 2 * 1024 + 1 * d.val = d.val; omega
  have ey : (((cfg0.win 4).blk t).view.emb (ix3 (0 : Fin 1) r d) : S16x6144x1024.Idx)
      = ix3 (n0 := 16) (n1 := 6144) (n2 := 1024) ⟨win0_4.index t 0, by omega⟩ ⟨win0_4.index t 1 * 512 + r.val, by omega⟩ d := by
    refine funext fun a => Fin.ext ?_
    match a with
    | ⟨0, _⟩ => show win0_4.index t 0 * 1 + 1 * 0 = win0_4.index t 0; omega
    | ⟨1, _⟩ => show win0_4.index t 1 * 512 + 1 * r.val = win0_4.index t 1 * 512 + r.val; omega
    | ⟨2, _⟩ => show win0_4.index t 2 * 1024 + 1 * d.val = d.val; omega
  rw [ey]
  simp only [hx, hg, hu, hd]

/-- Every index of the result is in some grid point's block. -/
theorem cover (i : S16x6144x1024.Idx) : ∃ t : Fin cfg0.N, (cfg0.win 4).flush t = true ∧ i ∈ ((cfg0.win 4).blk t).view.set := by
  have key : ∀ (e : Fin 16) (b : Fin 12), ∃ t : Fin cfg0.N, win0_4.index t 0 = e.val ∧ win0_4.index t 1 = b.val ∧ win0_4.index t 2 = 0 :=
    (by decide +kernel : ∀ (e : Fin 16) (b : Fin 12), ∃ t : Fin grid0.N, win0_4.index t 0 = e.val ∧ win0_4.index t 1 = b.val ∧ win0_4.index t 2 = 0)
  have h0 : (i 0).val < 16 := (i 0).isLt
  have h1 : (i 1).val < 6144 := (i 1).isLt
  have h2 : (i 2).val < 1024 := (i 2).isLt
  obtain ⟨t, e0, e1, e2⟩ := key ⟨(i 0).val, h0⟩ ⟨(i 1).val / 512, by omega⟩
  refine ⟨t, flush0_4 t, ?_⟩
  show i ∈ ((View.whole main_v34).slice (win0_4.rect t)).set
  rw [View.set_slice_whole, Rect.mem_set_unit]
  dsimp only at e0 e1
  intro a
  match a with
  | ⟨0, _⟩ => show win0_4.index t 0 * 1 ≤ (i 0).val ∧ (i 0).val < win0_4.index t 0 * 1 + 1; omega
  | ⟨1, _⟩ => show win0_4.index t 1 * 512 ≤ (i 1).val ∧ (i 1).val < win0_4.index t 1 * 512 + 512; omega
  | ⟨2, _⟩ => show win0_4.index t 2 * 1024 ≤ (i 2).val ∧ (i 2).val < win0_4.index t 2 * 1024 + 1024; omega

/-- The result array after the run is the layer of the operand arrays. -/
theorem final (c : Dev nD) : (dats m 0 c).arrAt 4 cfg0.N = Gm m c :=
  (dats m 0 c).arrAt_eq_of_cover 4 (Gm m c) (fun t _ => flushed_eq m c t) cover

end Cert.FfnProof

end
-- ==== Proof.FfnHost.lean ====
/-
  The host lines before the feed-forward call: the routing softmax, the experts' choice of rows and the gathered rows,
  as functions of the arguments, and the same rows as the reference gathers.
-/
module

public import proofs.«01_k».proof.Proof.FfnKernel
public import proofs.«01_k».proof.Proof.Gen.FfnRefIdeal.Read
public import Idealize.ShloMosaic.Lib.IdealHost
public import Idealize.ShloMosaic.Lib.StableHlo.RunRead

@[expose] public section

set_option maxRecDepth 16384

noncomputable section

namespace Cert.FfnProof

open Cert.FfnIdeal Cert.FfnIdeal.Gen Idealize.ShloMosaic Idealize.ShloMosaic.TcCoe Idealize.SL.Sem
open Idealize.ShloMosaic.ValueIdx
open scoped BigOperators

/-- The affinities of the 16 experts for all tokens: the logits' softmax, transposed. -/
def aff (x1 : FVec Ideal S49152x16 .f32) : FVec Ideal S16x49152 .f32 :=
  let v7 : FVec Ideal S49152x16 .f32 := broadcastInDim S49152x16 ![0, 1] bcast_S49152x1_S49152x16_0_1 (broadcastInDim S49152x1 ![0] bcast_S49152_S49152x1_0
    (maximumf (broadcastInDim S49152 ![] bcast_S_S49152 (constant S_ .f32 0xFF800000#32))
      (Host.reduce FloatOps.maximumf x1 (constant S_ .f32 0xFF800000#32) reducesTo_S49152x16_S49152_d1 h_S_)))
  let v9 : FVec Ideal S49152x16 .f32 := Host.exp (subf x1 v7)
  transpose S16x49152 [1, 0] (Host.divf v9 (broadcastInDim S49152x16 ![0, 1] bcast_S49152x1_S49152x16_0_1 (broadcastInDim S49152x1 ![0] bcast_S49152_S49152x1_0
    (Host.reduceAdd v9 (constant S_ .f32 0x00000000#32) reducesTo_S49152x16_S49152_d1 h_S_)))) transposes_S49152x16_S16x49152_1_0

/-- The first group's chosen row numbers, from its affinities. -/
def pick1 (a : FVec Ideal S16x32768 .f32) : IVec S16x4096x1 32 :=
  let ix : IVec S16x4096 32 := (Host.topK S16x4096 1 (FloatOps.cmpfTotal (F := Ideal) (φ := .f32) .gt) a sliceFits_S16x32768_S16x4096).2
  broadcastInDim S16x4096x1 ![0, 1] bcast_S16x4096_S16x4096x1_0_1
    (select (cmpi .slt ix (broadcastInDim S16x4096 ![] bcast_S_S16x4096 (constantI S_ 32 0#32)))
      (addi ix (broadcastInDim S16x4096 ![] bcast_S_S16x4096 (constantI S_ 32 32768#32))) ix)

/-- The second group's chosen row numbers, from its affinities. -/
def pick2 (a : FVec Ideal S16x16384 .f32) : IVec S16x2048x1 32 :=
  let ix : IVec S16x2048 32 := (Host.topK S16x2048 1 (FloatOps.cmpfTotal (F := Ideal) (φ := .f32) .gt) a sliceFits_S16x16384_S16x2048).2
  broadcastInDim S16x2048x1 ![0, 1] bcast_S16x2048_S16x2048x1_0_1
    (select (cmpi .slt ix (broadcastInDim S16x2048 ![] bcast_S_S16x2048 (constantI S_ 32 0#32)))
      (addi ix (broadcastInDim S16x2048 ![] bcast_S_S16x2048 (constantI S_ 32 16384#32))) ix)

/-- The first group's gathered rows. -/
def rows1 (x0 : FVec Ideal S49152x1024 .bf16) (a : FVec Ideal S16x32768 .f32) : FVec Ideal S16x4096x1024 .bf16 :=
  Host.gather gather_S32768x1024_S16x4096x1_S16x4096x1024_2_0_n_n_0_2_11024
    (extractStridedSlice S32768x1024 ![0, 0] x0 slices_S49152x1024_S32768x1024_0_0) (pick1 a)
/-- The second group's gathered rows. -/
def rows2 (x0 : FVec Ideal S49152x1024 .bf16) (a : FVec Ideal S16x16384 .f32) : FVec Ideal S16x2048x1024 .bf16 :=
  Host.gather gather_S16384x1024_S16x2048x1_S16x2048x1024_2_0_n_n_0_2_11024
    (extractStridedSlice S16384x1024 ![32768, 0] x0 slices_S49152x1024_S16384x1024_32768_0) (pick2 a)
/-- Both groups' rows, one below the other. -/
def cat (a : FVec Ideal S16x4096x1024 .bf16) (b : FVec Ideal S16x2048x1024 .bf16) : FVec Ideal S16x6144x1024 .bf16 :=
  concatenate S16x6144x1024 1 [⟨S16x4096x1024, a⟩, ⟨S16x2048x1024, b⟩] concatenates_S16x4096x1024_S16x2048x1024_S16x6144x1024_d1

variable (m : (ℓ : Loc nD τ sig) → Buf (Elt Ideal) ℓ) (ρ : Dev nD → PrngReg)

theorem V_v0 (c : Dev nD) : V m c main_v0 = m ((c : Thread nD τ).loc main_arg2) := by
  dsimp only [V, hostOps0]; after_reads_simp; rfl
theorem V_v1 (c : Dev nD) : V m c main_v1 = m ((c : Thread nD τ).loc main_arg3) := by
  dsimp only [V, hostOps0]; after_reads_simp; rfl
theorem V_v2 (c : Dev nD) : V m c main_v2 = m ((c : Thread nD τ).loc main_arg4) := by
  dsimp only [V, hostOps0]; after_reads_simp; rfl

theorem V_v14 (c : Dev nD) : V m c main_v14 = aff (m ((c : Thread nD τ).loc main_arg1)) := by
  dsimp only [V, hostOps0]; after_reads_simp; rfl

theorem V_v23 (c : Dev nD) : V m c main_v23 = rows1 (m ((c : Thread nD τ).loc main_arg0))
    (extractStridedSlice S16x32768 ![0, 0] (aff (m ((c : Thread nD τ).loc main_arg1))) slices_S16x49152_S16x32768_0_0) := by
  dsimp only [V, hostOps0]; after_reads_simp; rfl
theorem V_v32 (c : Dev nD) : V m c main_v32 = rows2 (m ((c : Thread nD τ).loc main_arg0))
    (extractStridedSlice S16x16384 ![0, 32768] (aff (m ((c : Thread nD τ).loc main_arg1))) slices_S16x49152_S16x16384_0_32768) := by
  dsimp only [V, hostOps0]; after_reads_simp; rfl

theorem V_v33 (c : Dev nD) : V m c main_v33 = cat (V m c main_v23) (V m c main_v32) := by
  refine (StableHlo.after_last_write (i := 44) [] rfl rfl (by simp) _).trans ?_
  refine (StableHlo.binary_result' _ _ _ _ _).trans ?_
  refine congrArg₂ cat ?_ ?_
  · dsimp only [V, hostOps0]; after_reads_simp
  · dsimp only [V, hostOps0]; after_reads_simp

end Cert.FfnProof

end
-- ==== Proof.FfnRoute.lean ====
/-
  The routing softmax read at an element, and with it: the rows that the kernel's host lines gather are the rows that
  the reference gathers.
-/
module

public import proofs.«01_k».proof.Proof.FfnHost

@[expose] public section

set_option maxRecDepth 16384

noncomputable section

namespace Cert.FfnProof

open Cert.FfnIdeal Cert.FfnIdeal.Gen Idealize.ShloMosaic Idealize.ShloMosaic.TcCoe Idealize.SL.Sem
open Idealize.ShloMosaic.ValueIdx
open scoped BigOperators

/-- The stabilised exponential of entry `k` of a row of 16 logits. -/
def smxE (z : Fin 16 → EReal) (k : Fin 16) : EReal :=
  Ideal.exp (z k - max (Ideal.ofBits .f32 0xFF800000#32) ((Finset.univ : Finset (Fin 16)).fold max (Ideal.ofBits .f32 0xFF800000#32) z))
/-- The softmax of a row of 16 logits. -/
def smx (z : Fin 16 → EReal) (k : Fin 16) : EReal :=
  Ideal.div (smxE z k) (Ideal.ofBits .f32 0x00000000#32 + ∑ j : Fin 16, smxE z j)

section Soft
variable {N : Nat} (x : FVec Ideal ⟨2, ![N, 16]⟩ .f32)
  (hN : (⟨2, ![N, 16]⟩ : Shape).ReducesTo [1] ⟨1, ![N]⟩) (hN' : (⟨2, ![N, 16]⟩ : Shape).Reduces [1] ⟨1, ![N]⟩)
  (h0 : 0 < (⟨0, ![]⟩ : Shape).numel)
  (b0 : (⟨0, ![]⟩ : Shape).BroadcastsInDim ⟨1, ![N]⟩ ![])
  (b1 : (⟨1, ![N]⟩ : Shape).BroadcastsInDim ⟨2, ![N, 1]⟩ ![0])
  (b2 : (⟨2, ![N, 1]⟩ : Shape).BroadcastsInDim ⟨2, ![N, 16]⟩ ![0, 1])

/-- A per-row value spread over the row's 16 columns. -/
theorem spread_apply (v : FVec Ideal ⟨1, ![N]⟩ .f32) (r : Fin N) (k : Fin 16) :
    (broadcastInDim ⟨2, ![N, 16]⟩ ![0, 1] b2 (broadcastInDim ⟨2, ![N, 1]⟩ ![0] b1 v) : FVec Ideal ⟨2, ![N, 16]⟩ .f32) (ix2 r k) = v (ix1 r) := by
  have hr : N = 1 → r.val = 0 := fun h => by have := r.isLt; omega
  refine (broadcastInDim_apply _ b2 _ _ (ix2 r (0 : Fin 1)) fun a => ?_).trans (broadcastInDim_apply _ b1 _ _ (ix1 r) fun a => ?_)
  · match a with
    | ⟨0, _⟩ => show r.val = if N = 1 then 0 else r.val; split <;> simp_all
    | ⟨1, _⟩ => rfl
  · match a with
    | ⟨0, _⟩ => show r.val = if N = 1 then 0 else r.val; split <;> simp_all

theorem lift_eq (r : Fin N) (k : Fin 16) : hN'.lift (ix1 r) k = ix2 r k := by
  funext a; refine Fin.ext ?_
  match a with
  | ⟨0, _⟩ => rfl
  | ⟨1, _⟩ => rfl

/-- The rows' stabilised exponentials, as the host lines compute them. -/
def hostE : FVec Ideal ⟨2, ![N, 16]⟩ .f32 :=
  Host.exp (subf x (broadcastInDim ⟨2, ![N, 16]⟩ ![0, 1] b2 (broadcastInDim ⟨2, ![N, 1]⟩ ![0] b1
    (maximumf (broadcastInDim ⟨1, ![N]⟩ ![] b0 (constant ⟨0, ![]⟩ .f32 0xFF800000#32))
      (Host.reduce FloatOps.maximumf x (constant ⟨0, ![]⟩ .f32 0xFF800000#32) hN h0)))))
/-- The rows' softmax, as the host lines compute it. -/
def hostS : FVec Ideal ⟨2, ![N, 16]⟩ .f32 :=
  Host.divf (hostE x hN h0 b0 b1 b2) (broadcastInDim ⟨2, ![N, 16]⟩ ![0, 1] b2 (broadcastInDim ⟨2, ![N, 1]⟩ ![0] b1
    (Host.reduceAdd (hostE x hN h0 b0 b1 b2) (constant ⟨0, ![]⟩ .f32 0x00000000#32) hN h0)))

include hN' in
theorem hostE_apply (r : Fin N) (k : Fin 16) : hostE x hN h0 b0 b1 b2 (ix2 r k) = smxE (fun k => x (ix2 r k)) k := by
  unfold hostE smxE
  show Ideal.exp (x (ix2 r k) - _) = _
  rw [spread_apply]
  show Ideal.exp (x (ix2 r k) - max _ _) = _
  rw [Host.reduce_eq_fold_single FloatOps.maximumf x _ hN hN' h0]
  have e : x ∘ hN'.lift (ix1 r) = fun k : Fin 16 => x (ix2 r k) := funext fun k => congrArg x (lift_eq hN' r k)
  rw [e]
  rfl

include hN' in
/-- The host's softmax at an element. -/
theorem hostS_apply (r : Fin N) (k : Fin 16) : hostS x hN h0 b0 b1 b2 (ix2 r k) = smx (fun k => x (ix2 r k)) k := by
  unfold hostS smx
  show Ideal.div (hostE x hN h0 b0 b1 b2 (ix2 r k)) _ = _
  rw [spread_apply, hostE_apply x hN hN']
  show Ideal.div _ (Ideal.hostReduceAdd hN _ _ _) = _
  rw [Ideal.hostReduceAdd_single hN hN']
  refine congrArg (Ideal.div _) (congrArg₂ (· + ·) rfl (Finset.sum_congr rfl fun j _ => ?_))
  exact (congrArg _ (lift_eq hN' r j)).trans (hostE_apply x hN hN' h0 b0 b1 b2 r j)

end Soft

/-- The first group's affinities: a slice of everybody's is the group's own. -/
theorem aff1_eq (x1 : FVec Ideal S49152x16 .f32) :
    extractStridedSlice S16x32768 ![0, 0] (aff x1) slices_S16x49152_S16x32768_0_0
      = Cert.FfnRefIdeal.Read.val_main_v13 (F := Ideal) x1 := by
  funext i
  obtain ⟨e, r, rfl⟩ : ∃ (e : Fin 16) (r : Fin 32768), i = ix2 e r := ⟨_, _, eq_ix2 i⟩
  refine (extractStridedSlice_apply _ _ _ _ (ix2 (n0 := 16) (n1 := 49152) e ⟨r.val, by omega⟩) fun a => ?_).trans ?_
  · match a with
    | ⟨0, _⟩ => show e.val = 0 + e.val; omega
    | ⟨1, _⟩ => show r.val = 0 + r.val; omega
  have h1 : aff x1 = transpose S16x49152 [1, 0] (hostS x1 reducesTo_S49152x16_S49152_d1 h_S_
      bcast_S_S49152 bcast_S49152_S49152x1_0 bcast_S49152x1_S49152x16_0_1) transposes_S49152x16_S16x49152_1_0 := rfl
  have h2 : Cert.FfnRefIdeal.Read.val_main_v13 (F := Ideal) x1 = transpose Cert.FfnRefIdeal.S16x32768 [1, 0]
      (hostS (Cert.FfnRefIdeal.Read.val_main_v1 (F := Ideal) x1) Cert.FfnRefIdeal.Gen.reducesTo_S32768x16_S32768_d1 Cert.FfnRefIdeal.Gen.h_S_
      Cert.FfnRefIdeal.Gen.bcast_S_S32768 Cert.FfnRefIdeal.Gen.bcast_S32768_S32768x1_0 Cert.FfnRefIdeal.Gen.bcast_S32768x1_S32768x16_0_1) Cert.FfnRefIdeal.Gen.transposes_S32768x16_S16x32768_1_0 := rfl
  rw [h1, h2]
  refine (transpose_apply _ _ _ _ (ix2 (n0 := 49152) (n1 := 16) ⟨r.val, by omega⟩ e) fun a => ?_).trans ?_
  · match a with
    | ⟨0, _⟩ => rfl
    | ⟨1, _⟩ => rfl
  refine Eq.trans ?_ (transpose_apply _ _ _ _ (ix2 (n0 := 32768) (n1 := 16) r e) fun a => ?_).symm
  · rw [hostS_apply (hN' := by decide), hostS_apply (hN' := by decide)]
    refine congrArg (smx · e) (funext fun k => ?_)
    rw [Cert.FfnRefIdeal.Read.val_main_v1_apply]
    refine congrArg x1 (funext fun a => Fin.ext ?_)
    match a with
    | ⟨0, _⟩ => rfl
    | ⟨1, _⟩ => rfl
  · match a with
    | ⟨0, _⟩ => rfl
    | ⟨1, _⟩ => rfl

/-- The second group's affinities: a slice of everybody's is the group's own. -/
theorem aff2_eq (x1 : FVec Ideal S49152x16 .f32) :
    extractStridedSlice S16x16384 ![0, 32768] (aff x1) slices_S16x49152_S16x16384_0_32768
      = Cert.FfnRefIdeal.Read.val_main_v40 (F := Ideal) x1 := by
  funext i
  obtain ⟨e, r, rfl⟩ : ∃ (e : Fin 16) (r : Fin 16384), i = ix2 e r := ⟨_, _, eq_ix2 i⟩
  refine (extractStridedSlice_apply _ _ _ _ (ix2 (n0 := 16) (n1 := 49152) e ⟨32768 + r.val, by omega⟩) fun a => ?_).trans ?_
  · match a with
    | ⟨0, _⟩ => show e.val = 0 + e.val; omega
    | ⟨1, _⟩ => show 32768 + r.val = 32768 + r.val; omega
  have h1 : aff x1 = transpose S16x49152 [1, 0] (hostS x1 reducesTo_S49152x16_S49152_d1 h_S_
      bcast_S_S49152 bcast_S49152_S49152x1_0 bcast_S49152x1_S49152x16_0_1) transposes_S49152x16_S16x49152_1_0 := rfl
  have h2 : Cert.FfnRefIdeal.Read.val_main_v40 (F := Ideal) x1 = transpose Cert.FfnRefIdeal.S16x16384 [1, 0]
      (hostS (Cert.FfnRefIdeal.Read.val_main_v28 (F := Ideal) x1) Cert.FfnRefIdeal.Gen.reducesTo_S16384x16_S16384_d1 Cert.FfnRefIdeal.Gen.h_S_
      Cert.FfnRefIdeal.Gen.bcast_S_S16384 Cert.FfnRefIdeal.Gen.bcast_S16384_S16384x1_0 Cert.FfnRefIdeal.Gen.bcast_S16384x1_S16384x16_0_1) Cert.FfnRefIdeal.Gen.transposes_S16384x16_S16x16384_1_0 := rfl
  rw [h1, h2]
  refine (transpose_apply _ _ _ _ (ix2 (n0 := 49152) (n1 := 16) ⟨32768 + r.val, by omega⟩ e) fun a => ?_).trans ?_
  · match a with
    | ⟨0, _⟩ => rfl
    | ⟨1, _⟩ => rfl
  refine Eq.trans ?_ (transpose_apply _ _ _ _ (ix2 (n0 := 16384) (n1 := 16) r e) fun a => ?_).symm
  · rw [hostS_apply (hN' := by decide), hostS_apply (hN' := by decide)]
    refine congrArg (smx · e) (funext fun k => ?_)
    rw [Cert.FfnRefIdeal.Read.val_main_v28_apply]
    refine congrArg x1 (funext fun a => Fin.ext ?_)
    match a with
    | ⟨0, _⟩ => rfl
    | ⟨1, _⟩ => rfl
  · match a with
    | ⟨0, _⟩ => rfl
    | ⟨1, _⟩ => rfl

end Cert.FfnProof

end
-- ==== Proof.FfnValue.lean ====
/-
  The value claim of the feed-forward program: the kernel's result array and the reference's are the same function of
  the arguments.
-/
module

public import proofs.«01_k».proof.Proof.FfnRoute
public import proofs.«01_k».proof.Defs
public import proofs.«01_k».proof.Proof.Gen.FfnIdeal.Value
public import proofs.«01_k».proof.Proof.Gen.FfnRefIdeal.Run

@[expose] public section

set_option maxRecDepth 16384

noncomputable section

namespace Cert.FfnProof

open Cert.FfnIdeal Cert.FfnIdeal.Gen Idealize.ShloMosaic Idealize.ShloMosaic.TcCoe Idealize.SL.Sem
open Idealize.ShloMosaic.ValueIdx
open Cert.FfnRefIdeal.Read
open scoped BigOperators

/-- The first group's rows are the reference's. -/
theorem rows1_eq (x0 : FVec Ideal S49152x1024 .bf16) (x1 : FVec Ideal S49152x16 .f32) :
    rows1 x0 (val_main_v13 (F := Ideal) x1) = val_main_v21 (F := Ideal) x0 x1 := rfl
/-- The second group's rows are the reference's. -/
theorem rows2_eq (x0 : FVec Ideal S49152x1024 .bf16) (x1 : FVec Ideal S49152x16 .f32) :
    rows2 x0 (val_main_v40 (F := Ideal) x1) = val_main_v48 (F := Ideal) x0 x1 := rfl

/-- The product of a number and its logistic, as the reference writes it. -/
theorem silu_eq (g : EReal) :
    g * Ideal.div (Ideal.ofBits .f32 0x3F800000#32) (Ideal.ofBits .f32 0x3F800000#32 + Ideal.exp (-g)) = g * Ideal.logistic g := by
  have h1 : Ideal.ofBits .f32 0x3F800000#32 = (1 : EReal) := Ideal.ofBits_one_f32
  rw [h1]; rfl

section
variable (x0 : FVec Ideal S49152x1024 .bf16) (x1 : FVec Ideal S49152x16 .f32) (x2 x3 : FVec Ideal S16x1024x2048 .f32)
  (x4 : FVec Ideal S16x2048x1024 .f32)

/-- The first group's result at an element. -/
theorem ref1_apply (e : Fin 16) (r : Fin 4096) (d : Fin 1024) :
    val_main_v26 (F := Ideal) x0 x1 x2 x3 x4 (ix3 e r d)
      = ∑ f : Fin 2048, ((∑ k : Fin 1024, val_main_v21 (F := Ideal) x0 x1 (ix3 e r k) * x2 (ix3 e k f))
          * Ideal.logistic (∑ k : Fin 1024, val_main_v21 (F := Ideal) x0 x1 (ix3 e r k) * x2 (ix3 e k f))
          * (∑ k : Fin 1024, val_main_v21 (F := Ideal) x0 x1 (ix3 e r k) * x3 (ix3 e k f))) * x4 (ix3 e f d) := by
  rw [val_main_v26_apply]
  refine Finset.sum_congr rfl fun f _ => ?_
  have hl : lidx_main_v26 (ix3 e r d) f = ix3 e r f := funext fun a => match a with | ⟨0, _⟩ => rfl | ⟨1, _⟩ => rfl | ⟨2, _⟩ => rfl
  have hr : ridx_main_v26 (ix3 e r d) f = ix3 e f d := funext fun a => match a with | ⟨0, _⟩ => rfl | ⟨1, _⟩ => rfl | ⟨2, _⟩ => rfl
  rw [hl, hr]
  have g : val_main_v22 (F := Ideal) x0 x1 x2 (ix3 e r f) = ∑ k : Fin 1024, val_main_v21 (F := Ideal) x0 x1 (ix3 e r k) * x2 (ix3 e k f) := by
    rw [val_main_v22_apply]
    refine Finset.sum_congr rfl fun k _ => congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  have u : val_main_v24 (F := Ideal) x0 x1 x3 (ix3 e r f) = ∑ k : Fin 1024, val_main_v21 (F := Ideal) x0 x1 (ix3 e r k) * x3 (ix3 e k f) := by
    rw [val_main_v24_apply]
    refine Finset.sum_congr rfl fun k _ => congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  refine congrArg (· * _) ?_
  rw [← g, ← u, ← silu_eq]
  rfl

/-- The second group's result at an element. -/
theorem ref2_apply (e : Fin 16) (r : Fin 2048) (d : Fin 1024) :
    val_main_v53 (F := Ideal) x0 x1 x2 x3 x4 (ix3 e r d)
      = ∑ f : Fin 2048, ((∑ k : Fin 1024, val_main_v48 (F := Ideal) x0 x1 (ix3 e r k) * x2 (ix3 e k f))
          * Ideal.logistic (∑ k : Fin 1024, val_main_v48 (F := Ideal) x0 x1 (ix3 e r k) * x2 (ix3 e k f))
          * (∑ k : Fin 1024, val_main_v48 (F := Ideal) x0 x1 (ix3 e r k) * x3 (ix3 e k f))) * x4 (ix3 e f d) := by
  rw [val_main_v53_apply]
  refine Finset.sum_congr rfl fun f _ => ?_
  have hl : lidx_main_v53 (ix3 e r d) f = ix3 e r f := funext fun a => match a with | ⟨0, _⟩ => rfl | ⟨1, _⟩ => rfl | ⟨2, _⟩ => rfl
  have hr : ridx_main_v53 (ix3 e r d) f = ix3 e f d := funext fun a => match a with | ⟨0, _⟩ => rfl | ⟨1, _⟩ => rfl | ⟨2, _⟩ => rfl
  rw [hl, hr]
  have g : val_main_v49 (F := Ideal) x0 x1 x2 (ix3 e r f) = ∑ k : Fin 1024, val_main_v48 (F := Ideal) x0 x1 (ix3 e r k) * x2 (ix3 e k f) := by
    rw [val_main_v49_apply]
    refine Finset.sum_congr rfl fun k _ => congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  have u : val_main_v51 (F := Ideal) x0 x1 x3 (ix3 e r f) = ∑ k : Fin 1024, val_main_v48 (F := Ideal) x0 x1 (ix3 e r k) * x3 (ix3 e k f) := by
    rw [val_main_v51_apply]
    refine Finset.sum_congr rfl fun k _ => congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  refine congrArg (· * _) ?_
  rw [← g, ← u, ← silu_eq]
  rfl

/-- A row of the first part of two arrays put one below the other. -/
theorem cat_left (a : (⟨3, ![16, 4096, 1024]⟩ : Shape).Idx → EReal) (b : (⟨3, ![16, 2048, 1024]⟩ : Shape).Idx → EReal)
    (h : Shape.Concatenates [⟨3, ![16, 4096, 1024]⟩, ⟨3, ![16, 2048, 1024]⟩] ⟨3, ![16, 6144, 1024]⟩ 1) (e : Fin 16) (r : Fin 6144) (k : Fin 1024)
    (hr : r.val < 4096) : concatenate (⟨3, ![16, 6144, 1024]⟩ : Shape) 1 [⟨⟨3, ![16, 4096, 1024]⟩, a⟩, ⟨⟨3, ![16, 2048, 1024]⟩, b⟩] h (ix3 e r k)
      = a (ix3 e (⟨r.val, hr⟩ : Fin 4096) k) := by
  refine concatenate_pair_apply_left (t := ⟨3, ![16, 6144, 1024]⟩) (s₁ := ⟨3, ![16, 4096, 1024]⟩) (s₂ := ⟨3, ![16, 2048, 1024]⟩) 1 a b h _ rfl (ix3 e (⟨r.val, hr⟩ : Fin 4096) k) ?_
  intro x
  match x with
  | ⟨0, _⟩ => rfl
  | ⟨1, _⟩ => rfl
  | ⟨2, _⟩ => rfl
/-- A row of the second part of two arrays put one below the other. -/
theorem cat_right (a : (⟨3, ![16, 4096, 1024]⟩ : Shape).Idx → EReal) (b : (⟨3, ![16, 2048, 1024]⟩ : Shape).Idx → EReal)
    (h : Shape.Concatenates [⟨3, ![16, 4096, 1024]⟩, ⟨3, ![16, 2048, 1024]⟩] ⟨3, ![16, 6144, 1024]⟩ 1) (e : Fin 16) (r : Fin 6144) (k : Fin 1024)
    (hr : ¬ r.val < 4096) : concatenate (⟨3, ![16, 6144, 1024]⟩ : Shape) 1 [⟨⟨3, ![16, 4096, 1024]⟩, a⟩, ⟨⟨3, ![16, 2048, 1024]⟩, b⟩] h (ix3 e r k)
      = b (ix3 e (⟨r.val - 4096, by omega⟩ : Fin 2048) k) := by
  refine concatenate_pair_apply_right (t := ⟨3, ![16, 6144, 1024]⟩) (s₁ := ⟨3, ![16, 4096, 1024]⟩) (s₂ := ⟨3, ![16, 2048, 1024]⟩) 1 a b h _ rfl rfl
    (ix3 e (⟨r.val - 4096, by omega⟩ : Fin 2048) k) ?_ ?_
  · intro x hx
    match x with
    | ⟨0, _⟩ => rfl
    | ⟨1, _⟩ => exact absurd rfl hx
    | ⟨2, _⟩ => rfl
  · exact Nat.sub_add_cancel (Nat.le_of_not_lt hr)

/-- The kernel's function of the gathered rows is the reference's result. -/
theorem G_eq : G (cat (val_main_v21 (F := Ideal) x0 x1) (val_main_v48 (F := Ideal) x0 x1)) x2 x3 x4 = val_main_v54 (F := Ideal) x0 x1 x2 x3 x4 := by
  funext i
  obtain ⟨e, r, d, rfl⟩ : ∃ (e : Fin 16) (r : Fin 6144) (d : Fin 1024), i = ix3 e r d := ⟨_, _, _, eq_ix3 i⟩
  unfold val_main_v54
  by_cases hr : r.val < 4096
  · have hX : ∀ k : Fin 1024, cat (val_main_v21 (F := Ideal) x0 x1) (val_main_v48 (F := Ideal) x0 x1) (ix3 e r k)
        = val_main_v21 (F := Ideal) x0 x1 (ix3 e (⟨r.val, hr⟩ : Fin 4096) k) := fun k => cat_left _ _ _ e r k hr
    refine Eq.trans ?_ (cat_left _ _ _ e r d hr).symm
    rw [ref1_apply]
    show ∑ f : Fin 2048, hid _ x2 x3 e r f * x4 (ix3 e f d) = _
    unfold hid
    simp only [hX]
  · have hX : ∀ k : Fin 1024, cat (val_main_v21 (F := Ideal) x0 x1) (val_main_v48 (F := Ideal) x0 x1) (ix3 e r k)
        = val_main_v48 (F := Ideal) x0 x1 (ix3 e (⟨r.val - 4096, by omega⟩ : Fin 2048) k) := fun k => cat_right _ _ _ e r k hr
    refine Eq.trans ?_ (cat_right _ _ _ e r d hr).symm
    rw [ref2_apply]
    show ∑ f : Fin 2048, hid _ x2 x3 e r f * x4 (ix3 e f d) = _
    unfold hid
    simp only [hX]

end

variable (m : (ℓ : Loc nD τ sig) → Buf (Elt Ideal) ℓ)

/-- The kernel's result array is the reference's function of the arguments. -/
theorem value (c : Dev nD) : (dats m 0 c).arrAt 4 cfg0.N
    = val_main_v54 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  rw [final]
  unfold Gm
  rw [V_v33, V_v23, V_v32, V_v0, V_v1, V_v2, aff1_eq, aff2_eq, rows1_eq, rows2_eq, G_eq]

/-- From equal arguments the idealized feed-forward kernel and its idealized reference leave the same array. -/
theorem algebraic : Cert.algebraic_FfnIdeal_FfnRefIdeal := fun m ρ m' ρ' _ hag =>
  ⟨fun c => val_main_v54 (F := Ideal) (m ((c : Thread nD τ).loc main_arg0)) (m ((c : Thread nD τ).loc main_arg1)) (m ((c : Thread nD τ).loc main_arg2))
        (m ((c : Thread nD τ).loc main_arg3)) (m ((c : Thread nD τ).loc main_arg4)),
    (θ_run _ _ _).mono (fun _ h c => ⟨(h c).1.trans (value m c), (h c).2⟩) (Cert.FfnIdeal.Value.run_blocks m ρ),
    (θ_run _ _ _).mono (fun _ h c => ⟨(h c).1.trans (by
      obtain ⟨h0, h1, h2, h3, h4⟩ := hag c
      rw [val_main_v54_eq]
      exact congr (congr (congr (congr (congrArg _ h0) h1) h2) h3) h4), (h c).2⟩) (Cert.FfnRefIdeal.Value.run m' ρ')⟩

end Cert.FfnProof

end
-- ==== Proof.Rms.lean ====
/-
  The root-mean-square normalisation of a row of 1024 numbers, and the same reading of it in a kernel's tile of `N` rows.
-/
module

public import Idealize.ShloMosaic.Lib.StableHlo
public import Idealize.ShloMosaic.Lib.ValueIdx
public import Idealize.ShloMosaic.Lib.Pipeline.Value
public import Idealize.ShloMosaic.PureOps.Ideal.Laws

@[expose] public section

set_option maxRecDepth 16384

noncomputable section

namespace Cert.Rms

open Idealize.ShloMosaic
open Idealize.ShloMosaic.ValueIdx
open scoped BigOperators

/-- The normalised row: each entry times the reciprocal root of the row's mean square (plus a small constant), times its gain. -/
def rmsE (x g : Fin 1024 → EReal) (j : Fin 1024) : EReal :=
  x j * Ideal.rsqrt (Ideal.div (∑ k, x k * x k) (FloatOps.ofBits (F := Ideal) .f32 0x44800000#32) + FloatOps.ofBits (F := Ideal) .f32 0x358637BD#32) * g j

variable {N : Nat}

/-- A row of a reduced matrix, lifted at column `k`, is the matrix's place (row, k). -/
theorem lift_eq (h : (⟨2, ![N, 1024]⟩ : Shape).Reduces [1] ⟨1, ![N]⟩) (r : Fin N) (k : Fin 1024) : h.lift (ix1 r) k = ix2 r k := by
  funext a; refine Fin.ext ?_
  match a with
  | ⟨0, _⟩ => rfl
  | ⟨1, _⟩ => rfl

/-- The kernel's lines for the normalisation of a tile of `N` rows, at row `r` and column `j`. -/
theorem tile_apply (hN : N ≠ 1) (x : FVec Ideal ⟨2, ![N, 1024]⟩ .f32) (g : FVec Ideal ⟨2, ![1, 1024]⟩ .f32)
    (h : (⟨2, ![N, 1024]⟩ : Shape).Reduces [1] ⟨1, ![N]⟩) (hc : (⟨1, ![N]⟩ : Shape).ShapeCasts ⟨2, ![N, 1]⟩)
    (hb : (⟨2, ![N, 1]⟩ : Shape).Broadcasts ⟨2, ![N, 1024]⟩) (hg : (⟨2, ![1, 1024]⟩ : Shape).Broadcasts ⟨2, ![N, 1024]⟩)
    (hs : (⟨2, ![1, 1024]⟩ : Shape).ShapeCasts ⟨2, ![1, 1024]⟩) (hf : FKind.Formats .f32) (hn : (0x00000000#32 : BitVec FTy.f32.bits) = FKind.add.neutral .f32 hf)
    (r : Fin N) (j : Fin 1024) :
    mulf (mulf x (broadcastTo ⟨2, ![N, 1024]⟩ (rsqrt (addf (divf (shapeCast ⟨2, ![N, 1]⟩ (multiReduction .add [1] ⟨1, ![N]⟩ (mulf x x) 0x00000000#32 h hf hn) hc)
        (broadcast ⟨2, ![N, 1]⟩ (Scalar.ofBits (F := Ideal) .f32 0x44800000#32))) (broadcast ⟨2, ![N, 1]⟩ (Scalar.ofBits (F := Ideal) .f32 0x358637BD#32)))) hb))
      (broadcastTo ⟨2, ![N, 1024]⟩ (shapeCast ⟨2, ![1, 1024]⟩ g hs) hg) (ix2 r j)
      = rmsE (fun k => x (ix2 r k)) (fun k => g (ix2 0 k)) j := by
  have h1 : shapeCast ⟨2, ![N, 1]⟩ (multiReduction .add [1] ⟨1, ![N]⟩ (mulf x x) 0x00000000#32 h hf hn) hc (ix2 r (0 : Fin 1))
      = ∑ k : Fin 1024, x (ix2 r k) * x (ix2 r k) := by
    refine (shapeCast_apply _ _ _ (ix1 r) ?_).trans ?_
    · rw [Shape.rowMajor_val_one, Shape.rowMajor_val_two]
      show r.val = r.val * 1 + 0
      omega
    refine (Ideal.multiReduction_add_single _ _ h hf hn (ix1 r)).trans (Finset.sum_congr rfl fun k _ => ?_)
    exact congrArg (mulf x x) (lift_eq h r k)
  rw [shapeCast_self]
  have h2 : ∀ y : FVec Ideal ⟨2, ![N, 1]⟩ .f32, broadcastTo ⟨2, ![N, 1024]⟩ y hb (ix2 r j) = y (ix2 r (0 : Fin 1)) := fun y =>
    broadcastTo_apply y hb _ _ fun a => match a with
      | ⟨0, _⟩ => by show r.val = if N = 1 then 0 else r.val; rw [if_neg hN]
      | ⟨1, _⟩ => by show 0 = if (1 : Nat) = 1 then 0 else j.val; rw [if_pos rfl]
  have h3 : broadcastTo ⟨2, ![N, 1024]⟩ g hg (ix2 r j) = g (ix2 (0 : Fin 1) j) :=
    broadcastTo_apply g hg _ _ fun a => match a with
      | ⟨0, _⟩ => by show 0 = if (1 : Nat) = 1 then 0 else r.val; rw [if_pos rfl]
      | ⟨1, _⟩ => by show j.val = if (1024 : Nat) = 1 then 0 else j.val; rw [if_neg (by decide)]
  unfold rmsE
  refine congrArg₂ (· * ·) (congrArg (x (ix2 r j) * ·) ((h2 _).trans ?_)) h3
  show Ideal.rsqrt (Ideal.div _ _ + _) = _
  rw [h1]
  rfl

/-- A finite sum of real numbers is the same sum among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- The number 1024 as the programs write it. -/
theorem c1024 : ∃ c : ℝ, 0 < c ∧ FloatOps.ofBits (F := Ideal) .f32 0x44800000#32 = (c : EReal) := by
  refine ⟨8388608 * (2 : ℝ) ^ (-13 : ℤ), by positivity, ?_⟩
  show Ideal.ofBits .f32 0x44800000#32 = _
  simp [Ideal.ofBits, Ideal.ieee]

/-- The small constant as the programs write it is a positive real number. -/
theorem eps : ∃ e : ℝ, 0 < e ∧ FloatOps.ofBits (F := Ideal) .f32 0x358637BD#32 = (e : EReal) := by
  refine ⟨8796093 * (2 : ℝ) ^ (-43 : ℤ), by positivity, ?_⟩
  show Ideal.ofBits .f32 0x358637BD#32 = _
  simp [Ideal.ofBits, Ideal.ieee]

/-- A sum of squares is never negative. -/
theorem sq_nonneg' (a : EReal) : 0 ≤ a * a := by
  rcases le_total 0 a with h | h
  · exact mul_nonneg h h
  · exact EReal.mul_nonneg_iff.mpr (Or.inr ⟨h, h⟩)

/-- The normalised row holds no infinity where its gain holds none: a row with an infinite entry normalises to zero. -/
theorem rms_real (x g : Fin 1024 → EReal) (j : Fin 1024) (hg : ∃ b : ℝ, g j = b) : ∃ b : ℝ, rmsE x g j = b := by
  obtain ⟨c, hc, ec⟩ := c1024
  obtain ⟨e, he, ee⟩ := eps
  obtain ⟨b, hb⟩ := hg
  unfold rmsE
  rw [ec, ee, hb]
  by_cases hx : ∃ k, x k = ⊤ ∨ x k = ⊥
  · obtain ⟨k, hk⟩ := hx
    have h1 : x k * x k = ⊤ := by rcases hk with h | h <;> rw [h] <;> rfl
    have h2 : ∑ k, x k * x k = ⊤ := top_le_iff.mp (h1 ▸ Finset.single_le_sum (f := fun k => x k * x k) (fun k _ => sq_nonneg' (x k)) (Finset.mem_univ k))
    have h3 : Ideal.div (⊤ : EReal) (c : EReal) = ⊤ := by
      unfold Ideal.div
      rw [if_neg (by exact_mod_cast hc.ne'), ← EReal.coe_inv]
      exact EReal.top_mul_coe_of_pos (inv_pos.mpr hc)
    rw [h2, h3, EReal.top_add_coe]
    refine ⟨0, ?_⟩
    show x j * (0 : EReal) * _ = _
    rw [mul_zero, zero_mul]; rfl
  · have hr : ∀ k, ∃ y : ℝ, x k = y := fun k => by
      induction h : x k with
      | bot => exact absurd ⟨k, Or.inr h⟩ hx
      | top => exact absurd ⟨k, Or.inl h⟩ hx
      | coe y => exact ⟨y, rfl⟩
    choose y hy using hr
    have h1 : ∑ k, x k * x k = ((∑ k, y k * y k : ℝ) : EReal) := by
      rw [coe_sum]
      exact Finset.sum_congr rfl fun k _ => by rw [hy k, EReal.coe_mul]
    have hs : 0 ≤ ∑ k, y k * y k := Finset.sum_nonneg fun k _ => mul_self_nonneg (y k)
    have h2 : Ideal.div ((∑ k, y k * y k : ℝ) : EReal) (c : EReal) = (((∑ k, y k * y k) * c⁻¹ : ℝ) : EReal) := by
      unfold Ideal.div
      rw [if_neg (by exact_mod_cast hc.ne'), EReal.coe_mul, EReal.coe_inv]
    have hp : 0 < (∑ k, y k * y k) * c⁻¹ + e := add_pos_of_nonneg_of_pos (mul_nonneg hs (inv_nonneg.mpr hc.le)) he
    rw [h1, h2, ← EReal.coe_add, hy j]
    have h3 : Ideal.rsqrt (((∑ k, y k * y k) * c⁻¹ + e : ℝ) : EReal) = ((Real.sqrt ((∑ k, y k * y k) * c⁻¹ + e))⁻¹ : ℝ) := by
      show (if (∑ k, y k * y k) * c⁻¹ + e < 0 then _ else if (∑ k, y k * y k) * c⁻¹ + e = 0 then _ else _) = _
      rw [if_neg hp.le.not_gt, if_neg hp.ne']
    rw [h3]
    exact ⟨_, by rw [← EReal.coe_mul, ← EReal.coe_mul]⟩

end Cert.Rms

end
-- ==== Proof.QkvKernel.lean ====
/-
  The projection kernel's three result arrays as functions of its operand arrays: the rows' normalisation times the
  weight's three column ranges, the first result scaled.
-/
module

public import proofs.«01_k».proof.Proof.Gen.QkvIdeal.Value
public import proofs.«01_k».proof.Proof.Rms
public import Idealize.ShloMosaic.Lib.MatmulPlain
public import Idealize.ShloMosaic.Lib.ValueIdx
public import Idealize.ShloMosaic.PureOps.Ideal.Laws

@[expose] public section

set_option maxRecDepth 16384

noncomputable section

namespace Cert.QkvProof

open Cert.QkvIdeal Cert.QkvIdeal.Gen Idealize.ShloMosaic Idealize.ShloMosaic.TcCoe Idealize.SL.Sem
open Idealize.ShloMosaic.ValueIdx
open Idealize.ShloMosaic.Pipeline (Dat)
open scoped BigOperators
open Cert.Rms

/-- Column `o + j` of the product of the normalised rows with the weight. -/
def proj (o : Nat) (ho : o + 1024 ≤ 3072) (X : S49152x1024.Idx → EReal) (g : S1x1024.Idx → EReal) (w : S1024x3072.Idx → EReal) :
    S49152x1024.Idx → EReal :=
  fun i => ∑ k : Fin 1024, rmsE (fun k => X (ix2 (i 0) k)) (fun k => g (ix2 0 k)) k
    * w (ix2 (n0 := 1024) (n1 := 3072) k ⟨o + (i 1).val, by have h : (i 1).val < 1024 := (i 1).isLt; omega⟩)

/-- The scale of the first result, one eighth. -/
abbrev scale : EReal := FloatOps.ofBits (F := Ideal) .f32 0x3E000000#32

theorem pay1_apply (x : Vec Ideal S512x1024 .f32) (g : Vec Ideal S1x1024 .f32) (r : Fin 512) (j : Fin 1024) :
    k0_pay1 (F := Ideal) x g (ix2 r j) = rmsE (fun k => x (ix2 r k)) (fun k => g (ix2 0 k)) j :=
  tile_apply (by decide) x g _ _ _ _ _ _ _ r j

theorem mm (x : Vec Ideal S512x1024 .f32) (g : Vec Ideal S1x1024 .f32) (w : Vec Ideal S1024x1024 .bf16) (r : Fin 512) (j : Fin 1024) :
    FloatOps.matmul (DotDims.plain 512 1024 1024) none (k0_pay1 (F := Ideal) x g)
        (shapeCast S1024x1024 w shapeCasts_S1024x1024_S1024x1024 : FVec Ideal S1024x1024 .bf16) (constant (F := Ideal) S512x1024 .f32 0x00000000#32) (ix2 r j)
      = ∑ k : Fin 1024, rmsE (fun k => x (ix2 r k)) (fun k => g (ix2 0 k)) k * w (ix2 k j) := by
  rw [Ideal.matmul_plain_apply, constant_apply, Ideal.ofBits_zero_f32, zero_add, shapeCast_self]
  exact Finset.sum_congr rfl fun k _ => congrArg (· * w (ix2 k j)) (pay1_apply x g r k)

theorem hp : dot_S512x1024_S1024x1024_S512x1024_1_0_0_1_n_n = DotDims.plain 512 1024 1024 := rfl

theorem pay2_apply (x : Vec Ideal S512x1024 .f32) (g : Vec Ideal S1x1024 .f32) (w : Vec Ideal S1024x1024 .bf16) (r : Fin 512) (j : Fin 1024) :
    k0_pay2 (F := Ideal) x g w (ix2 r j) = (∑ k : Fin 1024, rmsE (fun k => x (ix2 r k)) (fun k => g (ix2 0 k)) k * w (ix2 k j)) * scale := by
  unfold k0_pay2
  dsimp only [matmul]
  rw [hp]
  exact congrArg (· * scale) (mm x g w r j)
theorem pay3_apply (x : Vec Ideal S512x1024 .f32) (g : Vec Ideal S1x1024 .f32) (w : Vec Ideal S1024x1024 .bf16) (r : Fin 512) (j : Fin 1024) :
    k0_pay3 (F := Ideal) x g w (ix2 r j) = ∑ k : Fin 1024, rmsE (fun k => x (ix2 r k)) (fun k => g (ix2 0 k)) k * w (ix2 k j) := by
  unfold k0_pay3
  dsimp only [matmul]
  rw [hp]
  exact mm x g w r j
theorem pay4_apply (x : Vec Ideal S512x1024 .f32) (g : Vec Ideal S1x1024 .f32) (w : Vec Ideal S1024x1024 .bf16) (r : Fin 512) (j : Fin 1024) :
    k0_pay4 (F := Ideal) x g w (ix2 r j) = ∑ k : Fin 1024, rmsE (fun k => x (ix2 r k)) (fun k => g (ix2 0 k)) k * w (ix2 k j) := by
  unfold k0_pay4
  dsimp only [matmul]
  rw [hp]
  exact mm x g w r j

variable (m : (ℓ : Loc nD τ sig) → Buf (Elt Ideal) ℓ) (ρ : Dev nD → PrngReg)

/-- The three result arrays of the operand arrays the call finds. -/
abbrev Gq (c : Dev nD) : Buf (Elt Ideal) ((c : Thread nD τ).loc main_v2_0) :=
  fun i => proj 0 (by decide) (V m c main_arg0) (V m c main_v1) (V m c main_v0) i * scale
abbrev Gk (c : Dev nD) : Buf (Elt Ideal) ((c : Thread nD τ).loc main_v2_1) :=
  proj 1024 (by decide) (V m c main_arg0) (V m c main_v1) (V m c main_v0)
abbrev Gv (c : Dev nD) : Buf (Elt Ideal) ((c : Thread nD τ).loc main_v2_2) :=
  proj 2048 (by decide) (V m c main_arg0) (V m c main_v1) (V m c main_v0)

theorem hz2 : (![0, 0] : Fin 2 → Nat) = fun _ => 0 := funext fun a => by fin_cases a <;> rfl

/-- The windows' block indices at a grid point: the point's row tile, and whole gain and weight. -/
theorem idx_facts : ∀ t : Fin cfg0.N, win0_0.index t 0 = win0_3.index t 0 ∧ win0_0.index t 1 = 0
    ∧ win0_1.index t 0 = 0 ∧ win0_1.index t 1 = 0 ∧ win0_2.index t 0 = 0 ∧ win0_2.index t 1 = 0
    ∧ win0_4.index t 0 = win0_3.index t 0 ∧ win0_5.index t 0 = win0_3.index t 0
    ∧ win0_3.index t 1 = 0 ∧ win0_4.index t 1 = 0 ∧ win0_5.index t 1 = 0 ∧ win0_3.index t 0 < 96 :=
  (by decide +kernel : ∀ t : Fin grid0.N, win0_0.index t 0 = win0_3.index t 0 ∧ win0_0.index t 1 = 0
    ∧ win0_1.index t 0 = 0 ∧ win0_1.index t 1 = 0 ∧ win0_2.index t 0 = 0 ∧ win0_2.index t 1 = 0
    ∧ win0_4.index t 0 = win0_3.index t 0 ∧ win0_5.index t 0 = win0_3.index t 0
    ∧ win0_3.index t 1 = 0 ∧ win0_4.index t 1 = 0 ∧ win0_5.index t 1 = 0 ∧ win0_3.index t 0 < 96)

/-- Every row tile is some grid point's. -/
theorem points : ∀ b : Fin 96, ∃ t : Fin cfg0.N, win0_3.index t 0 = b.val :=
  (by decide +kernel : ∀ b : Fin 96, ∃ t : Fin grid0.N, win0_3.index t 0 = b.val)

theorem hx (c : Dev nD) (t : Fin cfg0.N) (b : Fin 96) (hb : b.val = win0_3.index t 0) (r : Fin 512) (k : Fin 1024) : iblk m c 0 t (ix2 r k)
    = V m c main_arg0 (ix2 (n0 := 49152) (n1 := 1024) ⟨b.val * 512 + r.val, by omega⟩ k) := by
  obtain ⟨h00, h01, -⟩ := idx_facts t
  show V m c main_arg0 _ = _
  refine congrArg _ (funext fun a => Fin.ext ?_)
  match a with
  | ⟨0, _⟩ => show win0_0.index t 0 * 512 + 1 * r.val = b.val * 512 + r.val; omega
  | ⟨1, _⟩ => show win0_0.index t 1 * 1024 + 1 * k.val = k.val; omega
theorem hg (c : Dev nD) (t : Fin cfg0.N) (k : Fin 1024) : iblk m c 1 t (ix2 (0 : Fin 1) k)
    = V m c main_v1 (ix2 (n0 := 1) (n1 := 1024) 0 k) := by
  obtain ⟨-, -, h10, h11, -⟩ := idx_facts t
  show V m c main_v1 _ = _
  refine congrArg _ (funext fun a => Fin.ext ?_)
  match a with
  | ⟨0, _⟩ => show win0_1.index t 0 * 1 + 1 * 0 = 0; omega
  | ⟨1, _⟩ => show win0_1.index t 1 * 1024 + 1 * k.val = k.val; omega
theorem hw (c : Dev nD) (t : Fin cfg0.N) (k : Fin 1024) (j : Fin 3072) : iblk m c 2 t (ix2 (n0 := 1024) (n1 := 3072) k j)
    = V m c main_v0 (ix2 (n0 := 1024) (n1 := 3072) k j) := by
  obtain ⟨-, -, -, -, h20, h21, -⟩ := idx_facts t
  show V m c main_v0 _ = _
  refine congrArg _ (funext fun a => Fin.ext ?_)
  match a with
  | ⟨0, _⟩ => show win0_2.index t 0 * 1024 + 1 * k.val = k.val; omega
  | ⟨1, _⟩ => show win0_2.index t 1 * 3072 + 1 * j.val = j.val; omega

/-- A load of a column range reads the weight's block at the range's columns. -/
theorem ldw {o : Nat} (ho : o + 1024 ≤ 3072) (X : Vec Ideal S1024x3072 .bf16)
    (inb : ∀ a, (![0, o] : Fin 2 → Nat) a + S1024x1024.size a ≤ S1024x3072.size a) (k j : Fin 1024) :
    View.ld X (Rect.unit (s := S1024x3072) ![0, o] S1024x1024.size inb) (ix2 k j) = X (ix2 (n0 := 1024) (n1 := 3072) k ⟨o + j.val, by omega⟩) := by
  show X _ = X _
  refine congrArg X (funext fun a => Fin.ext ?_)
  match a with
  | ⟨0, _⟩ => show 0 + 1 * k.val = k.val; omega
  | ⟨1, _⟩ => show o + 1 * j.val = o + j.val; omega

theorem sum_eq (c : Dev nD) (t : Fin cfg0.N) (b : Fin 96) (hb : b.val = win0_3.index t 0) (o : Nat) (ho : o + 1024 ≤ 3072)
    (inb : ∀ a, (![0, o] : Fin 2 → Nat) a + S1024x1024.size a ≤ S1024x3072.size a) (r : Fin 512) (j : Fin 1024) :
    (∑ k : Fin 1024, rmsE (fun k => iblk m c 0 t (ix2 r k)) (fun k => iblk m c 1 t (ix2 (0 : Fin 1) k)) k
        * View.ld (iblk m c 2 t : Vec Ideal S1024x3072 .bf16) (Rect.unit (s := S1024x3072) ![0, o] S1024x1024.size inb) (ix2 k j))
      = proj o ho (V m c main_arg0) (V m c main_v1) (V m c main_v0) (ix2 (n0 := 49152) (n1 := 1024) ⟨b.val * 512 + r.val, by omega⟩ j) := by
  unfold proj
  simp only [hx m c t b hb, hg]
  exact Finset.sum_congr rfl fun k _ => congrArg₂ (· * ·) rfl ((ldw ho _ inb k j).trans (hw m c t k _))

/-- What a grid point writes back is its row tile of the three results. -/
theorem flushed3_eq (c : Dev nD) (t : Fin cfg0.N) :
    (dats m 0 c).flushed 3 t = ((cfg0.win 3).blk t).view.read (Elt Ideal) (Gq m c) := by
  rw [Value.flushed3]
  unfold out0_3
  rw [View.canon_unit_zero hz2, View.ld_unit_zero hz2, View.ld_unit_zero hz2]
  obtain ⟨-, -, -, -, -, -, h40, h50, h31, h41, h51, hlt⟩ := idx_facts t
  funext y
  obtain ⟨r, j, rfl⟩ : ∃ (r : Fin 512) (j : Fin 1024), y = ix2 r j := ⟨_, _, eq_ix2 y⟩
  refine (pay2_apply _ _ _ r j).trans ?_
  have ey : (((cfg0.win 3).blk t).view.emb (ix2 r j) : S49152x1024.Idx)
      = ix2 (n0 := 49152) (n1 := 1024) ⟨win0_3.index t 0 * 512 + r.val, by omega⟩ j := by
    refine funext fun a => Fin.ext ?_
    match a with
    | ⟨0, _⟩ => show win0_3.index t 0 * 512 + 1 * r.val = win0_3.index t 0 * 512 + r.val; omega
    | ⟨1, _⟩ => show win0_3.index t 1 * 1024 + 1 * j.val = j.val; omega
  show _ = Gq m c (((cfg0.win 3).blk t).view.emb (ix2 r j))
  rw [ey]
  exact congrArg (· * scale) (sum_eq m c t ⟨win0_3.index t 0, hlt⟩ rfl 0 (by decide) _ r j)
theorem flushed4_eq (c : Dev nD) (t : Fin cfg0.N) :
    (dats m 0 c).flushed 4 t = ((cfg0.win 4).blk t).view.read (Elt Ideal) (Gk m c) := by
  rw [Value.flushed4]
  unfold out0_4
  rw [View.canon_unit_zero hz2, View.ld_unit_zero hz2, View.ld_unit_zero hz2]
  obtain ⟨-, -, -, -, -, -, h40, h50, h31, h41, h51, hlt⟩ := idx_facts t
  funext y
  obtain ⟨r, j, rfl⟩ : ∃ (r : Fin 512) (j : Fin 1024), y = ix2 r j := ⟨_, _, eq_ix2 y⟩
  refine (pay3_apply _ _ _ r j).trans ?_
  have ey : (((cfg0.win 4).blk t).view.emb (ix2 r j) : S49152x1024.Idx)
      = ix2 (n0 := 49152) (n1 := 1024) ⟨win0_3.index t 0 * 512 + r.val, by omega⟩ j := by
    refine funext fun a => Fin.ext ?_
    match a with
    | ⟨0, _⟩ => show win0_4.index t 0 * 512 + 1 * r.val = win0_3.index t 0 * 512 + r.val; omega
    | ⟨1, _⟩ => show win0_4.index t 1 * 1024 + 1 * j.val = j.val; omega
  show _ = Gk m c (((cfg0.win 4).blk t).view.emb (ix2 r j))
  rw [ey]
  exact sum_eq m c t ⟨win0_3.index t 0, hlt⟩ rfl 1024 (by decide) _ r j
theorem flushed5_eq (c : Dev nD) (t : Fin cfg0.N) :
    (dats m 0 c).flushed 5 t = ((cfg0.win 5).blk t).view.read (Elt Ideal) (Gv m c) := by
  rw [Value.flushed5]
  unfold out0_5
  rw [View.canon_unit_zero hz2, View.ld_unit_zero hz2, View.ld_unit_zero hz2]
  obtain ⟨-, -, -, -, -, -, h40, h50, h31, h41, h51, hlt⟩ := idx_facts t
  funext y
  obtain ⟨r, j, rfl⟩ : ∃ (r : Fin 512) (j : Fin 1024), y = ix2 r j := ⟨_, _, eq_ix2 y⟩
  refine (pay4_apply _ _ _ r j).trans ?_
  have ey : (((cfg0.win 5).blk t).view.emb (ix2 r j) : S49152x1024.Idx)
      = ix2 (n0 := 49152) (n1 := 1024) ⟨win0_3.index t 0 * 512 + r.val, by omega⟩ j := by
    refine funext fun a => Fin.ext ?_
    match a with
    | ⟨0, _⟩ => show win0_5.index t 0 * 512 + 1 * r.val = win0_3.index t 0 * 512 + r.val; omega
    | ⟨1, _⟩ => show win0_5.index t 1 * 1024 + 1 * j.val = j.val; omega
  show _ = Gv m c (((cfg0.win 5).blk t).view.emb (ix2 r j))
  rw [ey]
  exact sum_eq m c t ⟨win0_3.index t 0, hlt⟩ rfl 2048 (by decide) _ r j

/-- Every index of a result is in some grid point's block. -/
theorem cover3 (i : S49152x1024.Idx) : ∃ t : Fin cfg0.N, (cfg0.win 3).flush t = true ∧ i ∈ ((cfg0.win 3).blk t).view.set := by
  have h0 : (i 0).val < 49152 := (i 0).isLt
  have h1 : (i 1).val < 1024 := (i 1).isLt
  obtain ⟨t, e0⟩ := points ⟨(i 0).val / 512, by omega⟩
  obtain ⟨-, -, -, -, -, -, h40, h50, h31, h41, h51, hlt⟩ := idx_facts t
  refine ⟨t, flush0_3 t, ?_⟩
  show i ∈ ((View.whole main_v2_0).slice (win0_3.rect t)).set
  rw [View.set_slice_whole, Rect.mem_set_unit]
  dsimp only at e0
  intro a
  match a with
  | ⟨0, _⟩ => show win0_3.index t 0 * 512 ≤ (i 0).val ∧ (i 0).val < win0_3.index t 0 * 512 + 512; omega
  | ⟨1, _⟩ => show win0_3.index t 1 * 1024 ≤ (i 1).val ∧ (i 1).val < win0_3.index t 1 * 1024 + 1024; omega
theorem cover4 (i : S49152x1024.Idx) : ∃ t : Fin cfg0.N, (cfg0.win 4).flush t = true ∧ i ∈ ((cfg0.win 4).blk t).view.set := by
  have h0 : (i 0).val < 49152 := (i 0).isLt
  have h1 : (i 1).val < 1024 := (i 1).isLt
  obtain ⟨t, e0⟩ := points ⟨(i 0).val / 512, by omega⟩
  obtain ⟨-, -, -, -, -, -, h40, h50, h31, h41, h51, hlt⟩ := idx_facts t
  refine ⟨t, flush0_4 t, ?_⟩
  show i ∈ ((View.whole main_v2_1).slice (win0_4.rect t)).set
  rw [View.set_slice_whole, Rect.mem_set_unit]
  dsimp only at e0
  intro a
  match a with
  | ⟨0, _⟩ => show win0_4.index t 0 * 512 ≤ (i 0).val ∧ (i 0).val < win0_4.index t 0 * 512 + 512; omega
  | ⟨1, _⟩ => show win0_4.index t 1 * 1024 ≤ (i 1).val ∧ (i 1).val < win0_4.index t 1 * 1024 + 1024; omega
theorem cover5 (i : S49152x1024.Idx) : ∃ t : Fin cfg0.N, (cfg0.win 5).flush t = true ∧ i ∈ ((cfg0.win 5).blk t).view.set := by
  have h0 : (i 0).val < 49152 := (i 0).isLt
  have h1 : (i 1).val < 1024 := (i 1).isLt
  obtain ⟨t, e0⟩ := points ⟨(i 0).val / 512, by omega⟩
  obtain ⟨-, -, -, -, -, -, h40, h50, h31, h41, h51, hlt⟩ := idx_facts t
  refine ⟨t, flush0_5 t, ?_⟩
  show i ∈ ((View.whole main_v2_2).slice (win0_5.rect t)).set
  rw [View.set_slice_whole, Rect.mem_set_unit]
  dsimp only at e0
  intro a
  match a with
  | ⟨0, _⟩ => show win0_5.index t 0 * 512 ≤ (i 0).val ∧ (i 0).val < win0_5.index t 0 * 512 + 512; omega
  | ⟨1, _⟩ => show win0_5.index t 1 * 1024 ≤ (i 1).val ∧ (i 1).val < win0_5.index t 1 * 1024 + 1024; omega

/-- The result arrays after the run. -/
theorem final3 (c : Dev nD) : (dats m 0 c).arrAt 3 cfg0.N = Gq m c :=
  (dats m 0 c).arrAt_eq_of_cover 3 (Gq m c) (fun t _ => flushed3_eq m c t) cover3
theorem final4 (c : Dev nD) : (dats m 0 c).arrAt 4 cfg0.N = Gk m c :=
  (dats m 0 c).arrAt_eq_of_cover 4 (Gk m c) (fun t _ => flushed4_eq m c t) cover4
theorem final5 (c : Dev nD) : (dats m 0 c).arrAt 5 cfg0.N = Gv m c :=
  (dats m 0 c).arrAt_eq_of_cover 5 (Gv m c) (fun t _ => flushed5_eq m c t) cover5

end Cert.QkvProof

end
-- ==== Proof.QkvValue.lean ====
/-
  The projection kernel computes its reference: the three result arrays are the reference's queries, keys and values.
-/
module

public import proofs.«01_k».proof.Defs
public import proofs.«01_k».proof.Proof.QkvKernel
public import proofs.«01_k».proof.Proof.Gen.QkvRefIdeal.Run
public import proofs.«01_k».proof.Proof.Gen.QkvRefIdeal.Read
public import Idealize.ShloMosaic.Lib.StableHlo.RunRead

@[expose] public section

set_option maxRecDepth 16384

noncomputable section

namespace Cert.QkvProof

open Cert.QkvIdeal Cert.QkvIdeal.Gen Idealize.ShloMosaic Idealize.ShloMosaic.TcCoe Idealize.SL.Sem
open Idealize.ShloMosaic.ValueIdx
open Cert.QkvRefIdeal.Read
open scoped BigOperators
open Cert.Rms

/-- The reference's normalised rows. -/
theorem ref12 (x0 : FVec Ideal S49152x1024 .f32) (x1 : FVec Ideal S1024 .f32) (r : Fin 49152) (j : Fin 1024) :
    val_main_v12 (F := Ideal) x0 x1 (ix2 r j) = rmsE (fun k => x0 (ix2 r k)) (fun k => x1 (ix1 k)) j := by
  have e1 : val_main_v1 (F := Ideal) x0 (idx_main_v2 (idx_main_v8 (ix2 r j))) = ∑ k : Fin 1024, x0 (ix2 r k) * x0 (ix2 r k) := by
    rw [val_main_v1_apply, val_main_cst_apply]
    refine (congrArg (· + _) Ideal.ofBits_zero_f32).trans ((zero_add _).trans ?_)
    refine Finset.sum_congr rfl fun k _ => ?_
    have e : idx_main_v1 (idx_main_v2 (idx_main_v8 (ix2 r j))) k = ix2 r k := funext fun a => match a with | ⟨0, _⟩ => rfl | ⟨1, _⟩ => rfl
    rw [e]; rfl
  have e2 : idx_main_v10 (idx_main_v11 (ix2 r j)) = ix1 j := funext fun a => match a with | ⟨0, _⟩ => rfl
  rw [val_main_v12_apply, val_main_v9_apply, val_main_v8_apply, val_main_v7_apply, val_main_v6_apply, val_main_v5_apply, val_main_v4_apply,
    val_main_v3_apply, val_main_v2_apply, val_main_v11_apply, val_main_v10_apply, e1, e2]
  rfl

/-- The reference's product with the weight, at column `o + j`. -/
theorem ref13 (x0 : FVec Ideal S49152x1024 .f32) (x1 : FVec Ideal S1024 .f32) (x2 : FVec Ideal S1024x3072 .f32) (o : Nat) (ho : o + 1024 ≤ 3072)
    (g : S1x1024.Idx → EReal) (hg : ∀ k : Fin 1024, g (ix2 0 k) = x1 (ix1 k)) (i : S49152x1024.Idx) (i' : Cert.QkvRefIdeal.S49152x3072.Idx)
    (h0 : (i' 0).val = (i 0).val) (h1 : (i' 1).val = o + (i 1).val) :
    proj o ho x0 g x2 i = val_main_v13 (F := Ideal) x0 x1 x2 i' := by
  rw [val_main_v13_apply]
  unfold proj
  simp only [hg]
  refine Finset.sum_congr rfl fun k _ => congrArg₂ (· * ·) ?_ (congrArg x2 ?_)
  · have e : lidx_main_v13 i' k = ix2 (i 0) k := funext fun a => match a with | ⟨0, _⟩ => Fin.ext h0 | ⟨1, _⟩ => rfl
    rw [e]
    exact (ref12 x0 x1 (i 0) k).symm
  · exact funext fun a => match a with | ⟨0, _⟩ => rfl | ⟨1, _⟩ => Fin.ext h1.symm

variable (m : (ℓ : Loc nD τ sig) → Buf (Elt Ideal) ℓ) (ρ : Dev nD → PrngReg)

theorem V_arg0 (c : Dev nD) : V m c main_arg0 = m ((c : Thread nD τ).loc main_arg0) := by
  dsimp only [V, hostOps0]; after_reads_simp
theorem V_v0 (c : Dev nD) : V m c main_v0 = m ((c : Thread nD τ).loc main_arg2) := by
  dsimp only [V, hostOps0]; after_reads_simp; rfl
theorem V_v1 (c : Dev nD) (k : Fin 1024) : V m c main_v1 (ix2 (n0 := 1) (n1 := 1024) 0 k) = m ((c : Thread nD τ).loc main_arg1) (ix1 (n := 1024) k) := by
  have e : V m c main_v1 = shapeCast S1x1024 (m ((c : Thread nD τ).loc main_arg1)) shapeCasts_S1024_S1x1024 := by
    dsimp only [V, hostOps0]; after_reads_simp; rfl
  rw [e]
  refine shapeCast_apply (s := S1024) _ _ _ _ ?_
  rw [Shape.rowMajor_val_one, Shape.rowMajor_val_two]
  show k.val = 0 * 1024 + k.val
  omega

theorem value3 (c : Dev nD) : (dats m 0 c).arrAt 3 cfg0.N
    = val_main_v19 (F := Ideal) (m ((c : Thread nD τ).loc main_arg0)) (m ((c : Thread nD τ).loc main_arg1)) (m ((c : Thread nD τ).loc main_arg2)) := by
  rw [final3]
  unfold Gq
  rw [V_arg0, V_v0]
  funext i
  rw [val_main_v19_apply, val_main_v18_apply, val_main_v17_apply, val_main_v14_apply]
  exact congrArg (· * scale) (ref13 _ _ _ 0 (by decide) _ (V_v1 m c) i _ rfl (Nat.zero_add _).symm)
theorem value4 (c : Dev nD) : (dats m 0 c).arrAt 4 cfg0.N
    = val_main_v20 (F := Ideal) (m ((c : Thread nD τ).loc main_arg0)) (m ((c : Thread nD τ).loc main_arg1)) (m ((c : Thread nD τ).loc main_arg2)) := by
  rw [final4]
  unfold Gk
  rw [V_arg0, V_v0]
  funext i
  rw [val_main_v20_apply, val_main_v15_apply]
  exact ref13 _ _ _ 1024 (by decide) _ (V_v1 m c) i _ rfl rfl
theorem value5 (c : Dev nD) : (dats m 0 c).arrAt 5 cfg0.N
    = val_main_v21 (F := Ideal) (m ((c : Thread nD τ).loc main_arg0)) (m ((c : Thread nD τ).loc main_arg1)) (m ((c : Thread nD τ).loc main_arg2)) := by
  rw [final5]
  unfold Gv
  rw [V_arg0, V_v0]
  funext i
  rw [val_main_v21_apply, val_main_v16_apply]
  exact ref13 _ _ _ 2048 (by decide) _ (V_v1 m c) i _ rfl rfl

/-- From equal arguments the idealized projection kernel and its idealized reference leave the same three arrays. -/
theorem algebraic : Cert.algebraic_QkvIdeal_QkvRefIdeal := fun m ρ m' ρ' _ hag =>
  ⟨fun c => val_main_v19 (F := Ideal) (m ((c : Thread nD τ).loc main_arg0)) (m ((c : Thread nD τ).loc main_arg1)) (m ((c : Thread nD τ).loc main_arg2)),
    fun c => val_main_v20 (F := Ideal) (m ((c : Thread nD τ).loc main_arg0)) (m ((c : Thread nD τ).loc main_arg1)) (m ((c : Thread nD τ).loc main_arg2)),
    fun c => val_main_v21 (F := Ideal) (m ((c : Thread nD τ).loc main_arg0)) (m ((c : Thread nD τ).loc main_arg1)) (m ((c : Thread nD τ).loc main_arg2)),
    (θ_run _ _ _).mono (fun _ h c => ⟨(h c).1.trans (value3 m c), (h c).2.1.trans (value4 m c), (h c).2.2.1.trans (value5 m c), (h c).2.2.2⟩)
      (Cert.QkvIdeal.Value.run_blocks m ρ),
    (θ_run _ _ _).mono (fun _ h c => by
      obtain ⟨h0, h1, h2⟩ := hag c
      refine ⟨(h c).1.trans ?_, (h c).2.1.trans ?_, (h c).2.2.1.trans ?_, (h c).2.2.2⟩
      · rw [val_main_v19_eq]; exact congr (congr (congrArg _ h0) h1) h2
      · rw [val_main_v20_eq]; exact congr (congr (congrArg _ h0) h1) h2
      · rw [val_main_v21_eq]; exact congr (congr (congrArg _ h0) h1) h2) (Cert.QkvRefIdeal.Value.run m' ρ')⟩

end Cert.QkvProof

end
-- ==== Proof.ProjKernel.lean ====
/-
  The output projection's kernel: its three result arrays (the residual stream, its normalised rows, the router's logits)
  as functions of its operand arrays.
-/
module

public import proofs.«01_k».proof.Proof.Gen.ProjIdeal.Value
public import proofs.«01_k».proof.Proof.Rms
public import Idealize.ShloMosaic.Lib.MatmulPlain
public import Idealize.ShloMosaic.Lib.ValueIdx
public import Idealize.ShloMosaic.PureOps.Ideal.Laws

@[expose] public section

set_option maxRecDepth 16384

noncomputable section

namespace Cert.ProjProof

open Cert.ProjIdeal Cert.ProjIdeal.Gen Idealize.ShloMosaic Idealize.ShloMosaic.TcCoe Idealize.SL.Sem
open Idealize.ShloMosaic.ValueIdx
open Idealize.ShloMosaic.Pipeline (Dat)
open scoped BigOperators
open Cert.Rms

/-- The residual stream of one row: the row plus its attention outputs times the output weight. -/
def hnE (a : Fin 1024 → EReal) (w : S1024x1024.Idx → EReal) (h : Fin 1024 → EReal) (j : Fin 1024) : EReal :=
  h j + ∑ k : Fin 1024, a k * w (ix2 k j)

/-- The logit as the kernel adds it up: the product, the product with the row's rest, the product with the weight's rest. -/
def lgE (u W : Fin 1024 → EReal) : EReal :=
  (∑ k, u k * W k + ∑ k, (u k - u k) * W k) + ∑ k, u k * (W k - W k)

theorem pay2_apply (h : Vec Ideal S512x1024 .f32) (a : Vec Ideal S512x1024 .bf16) (w : Vec Ideal S1024x1024 .bf16) (r : Fin 512) (j : Fin 1024) :
    k0_pay2 (F := Ideal) h a w (ix2 r j) = hnE (fun k => a (ix2 r k)) w (fun k => h (ix2 r k)) j := by
  have hp : dot_S512x1024_S1024x1024_S512x1024_1_0_0_1_n_n = DotDims.plain 512 1024 1024 := rfl
  unfold k0_pay2 hnE
  dsimp only [matmul]
  rw [hp, shapeCast_self]
  refine congrArg (h (ix2 r j) + ·) ?_
  rw [Ideal.matmul_plain_apply, constant_apply, Ideal.ofBits_zero_f32, zero_add]

theorem pay3_apply (h : Vec Ideal S512x1024 .f32) (a : Vec Ideal S512x1024 .bf16) (w : Vec Ideal S1024x1024 .bf16) (g : Vec Ideal S1x1024 .f32)
    (r : Fin 512) (j : Fin 1024) :
    k0_pay3 (F := Ideal) h a w g (ix2 r j)
      = rmsE (hnE (fun k => a (ix2 r k)) w (fun k => h (ix2 r k))) (fun k => g (ix2 0 k)) j := by
  refine (tile_apply (by decide) (k0_pay2 (F := Ideal) h a w) g _ _ _ _ _ _ _ r j).trans ?_
  exact congrArg (fun x => rmsE x (fun k => g (ix2 0 k)) j) (funext fun k => pay2_apply h a w r k)

theorem pay7_apply (h : Vec Ideal S512x1024 .f32) (a : Vec Ideal S512x1024 .bf16) (w : Vec Ideal S1024x1024 .bf16) (g : Vec Ideal S1x1024 .f32)
    (W : Vec Ideal S1024x128 .f32) (r : Fin 512) (j : Fin 128) :
    k0_pay1 (F := Ideal) (k0_pay5 h a w g) (k0_pay8 W) (k0_pay9 h a w g W) (constant S512x128 .f32 0x00000000#32) (ix2 r j)
      = lgE (rmsE (hnE (fun k => a (ix2 r k)) w (fun k => h (ix2 r k))) (fun k => g (ix2 0 k))) (fun k => W (ix2 k j)) := by
  have hp : dot_S512x1024_S1024x128_S512x128_1_0_0_1_n_n = DotDims.plain 512 1024 128 := rfl
  have mm : ∀ (x : FVec Ideal S512x1024 .bf16) (y : FVec Ideal S1024x128 .bf16),
      FloatOps.matmul (DotDims.plain 512 1024 128) none x y (constant (F := Ideal) S512x128 .f32 0x00000000#32) (ix2 r j)
        = ∑ k : Fin 1024, x (ix2 r k) * y (ix2 k j) := fun x y => by
    rw [Ideal.matmul_plain_apply, constant_apply, Ideal.ofBits_zero_f32, zero_add]
  have e6 : ∀ k, k0_pay6 (F := Ideal) W (ix2 k j) = W (ix2 k j) := fun k => by unfold k0_pay6; rw [shapeCast_self]
  unfold k0_pay1 k0_pay9 lgE
  dsimp only [matmul]
  rw [hp]
  refine congrArg₂ (· + ·) (congrArg₂ (· + ·) ((mm _ _).trans ?_) ((mm _ _).trans ?_)) ((mm _ _).trans ?_)
  · exact Finset.sum_congr rfl fun k _ => congrArg₂ (· * ·) (pay3_apply h a w g r k) (e6 k)
  · exact Finset.sum_congr rfl fun k _ => congrArg₂ (· * ·)
      (congrArg₂ (fun p q : EReal => p - q) (pay3_apply h a w g r k) (pay3_apply h a w g r k)) (e6 k)
  · exact Finset.sum_congr rfl fun k _ => congrArg₂ (· * ·) (pay3_apply h a w g r k)
      (congrArg₂ (fun p q : EReal => p - q) (e6 k) (e6 k))

variable (m : (ℓ : Loc nD τ sig) → Buf (Elt Ideal) ℓ) (ρ : Dev nD → PrngReg)

/-- The residual stream of a row of the whole arrays. -/
def hnA (A : S49152x1024.Idx → EReal) (w : S1024x1024.Idx → EReal) (H : S49152x1024.Idx → EReal) (r : Fin 49152) : Fin 1024 → EReal :=
  hnE (fun k => A (ix2 r k)) w (fun k => H (ix2 r k))

/-- The three result arrays of the operand arrays the call finds. -/
abbrev Gh (c : Dev nD) : Buf (Elt Ideal) ((c : Thread nD τ).loc main_v3_0) :=
  fun i : S49152x1024.Idx => hnA (V m c main_arg0) (V m c main_v0) (V m c main_arg2) (i 0) (i 1)
abbrev Gu (c : Dev nD) : Buf (Elt Ideal) ((c : Thread nD τ).loc main_v3_1) :=
  fun i : S49152x1024.Idx => rmsE (hnA (V m c main_arg0) (V m c main_v0) (V m c main_arg2) (i 0)) (fun k => (V m c main_v1 : S1x1024.Idx → EReal) (ix2 0 k)) (i 1)
abbrev Gl (c : Dev nD) : Buf (Elt Ideal) ((c : Thread nD τ).loc main_v3_2) :=
  fun i : S49152x128.Idx => lgE (rmsE (hnA (V m c main_arg0) (V m c main_v0) (V m c main_arg2) (i 0)) (fun k => (V m c main_v1 : S1x1024.Idx → EReal) (ix2 0 k)))
    (fun k => (V m c main_v2 : S1024x128.Idx → EReal) (ix2 k (i 1)))

theorem hz2 : (![0, 0] : Fin 2 → Nat) = fun _ => 0 := funext fun a => by fin_cases a <;> rfl

/-- The windows' block indices at a grid point: the point's row tile, and whole weights and gain. -/
theorem idx_facts : ∀ t : Fin cfg0.N, (win0_0.index t 0 = win0_5.index t 0 ∧ win0_0.index t 1 = 0
    ∧ win0_1.index t 0 = 0 ∧ win0_1.index t 1 = 0 ∧ win0_2.index t 0 = win0_5.index t 0 ∧ win0_2.index t 1 = 0
    ∧ win0_3.index t 0 = 0 ∧ win0_3.index t 1 = 0 ∧ win0_4.index t 0 = 0 ∧ win0_4.index t 1 = 0)
    ∧ win0_6.index t 0 = win0_5.index t 0 ∧ win0_7.index t 0 = win0_5.index t 0
    ∧ win0_5.index t 1 = 0 ∧ win0_6.index t 1 = 0 ∧ win0_7.index t 1 = 0 ∧ win0_5.index t 0 < 96 :=
  (by decide +kernel : ∀ t : Fin grid0.N, (win0_0.index t 0 = win0_5.index t 0 ∧ win0_0.index t 1 = 0
    ∧ win0_1.index t 0 = 0 ∧ win0_1.index t 1 = 0 ∧ win0_2.index t 0 = win0_5.index t 0 ∧ win0_2.index t 1 = 0
    ∧ win0_3.index t 0 = 0 ∧ win0_3.index t 1 = 0 ∧ win0_4.index t 0 = 0 ∧ win0_4.index t 1 = 0)
    ∧ win0_6.index t 0 = win0_5.index t 0 ∧ win0_7.index t 0 = win0_5.index t 0
    ∧ win0_5.index t 1 = 0 ∧ win0_6.index t 1 = 0 ∧ win0_7.index t 1 = 0 ∧ win0_5.index t 0 < 96)

/-- Every row tile is some grid point's. -/
theorem points : ∀ b : Fin 96, ∃ t : Fin cfg0.N, win0_5.index t 0 = b.val :=
  (by decide +kernel : ∀ b : Fin 96, ∃ t : Fin grid0.N, win0_5.index t 0 = b.val)

theorem ha (c : Dev nD) (t : Fin cfg0.N) (b : Fin 96) (hb : b.val = win0_5.index t 0) (r : Fin 512) (k : Fin 1024) : iblk m c 0 t (ix2 r k)
    = V m c main_arg0 (ix2 (n0 := 49152) (n1 := 1024) ⟨b.val * 512 + r.val, by omega⟩ k) := by
  obtain ⟨⟨h0, h1, -⟩, -⟩ := idx_facts t
  show V m c main_arg0 _ = _
  refine congrArg _ (funext fun a => Fin.ext ?_)
  match a with
  | ⟨0, _⟩ => show win0_0.index t 0 * 512 + 1 * r.val = b.val * 512 + r.val; omega
  | ⟨1, _⟩ => show win0_0.index t 1 * 1024 + 1 * k.val = k.val; omega
theorem hh (c : Dev nD) (t : Fin cfg0.N) (b : Fin 96) (hb : b.val = win0_5.index t 0) (r : Fin 512) (k : Fin 1024) : iblk m c 2 t (ix2 r k)
    = V m c main_arg2 (ix2 (n0 := 49152) (n1 := 1024) ⟨b.val * 512 + r.val, by omega⟩ k) := by
  obtain ⟨⟨-, -, -, -, h0, h1, -⟩, -⟩ := idx_facts t
  show V m c main_arg2 _ = _
  refine congrArg _ (funext fun a => Fin.ext ?_)
  match a with
  | ⟨0, _⟩ => show win0_2.index t 0 * 512 + 1 * r.val = b.val * 512 + r.val; omega
  | ⟨1, _⟩ => show win0_2.index t 1 * 1024 + 1 * k.val = k.val; omega
theorem hw (c : Dev nD) (t : Fin cfg0.N) : iblk m c 1 t = V m c main_v0 := by
  obtain ⟨⟨-, -, h0, h1, -⟩, -⟩ := idx_facts t
  funext y
  show V m c main_v0 _ = _
  refine congrArg _ (funext fun a => Fin.ext ?_)
  match a with
  | ⟨0, _⟩ => show win0_1.index t 0 * 1024 + 1 * (y 0).val = (y 0).val; omega
  | ⟨1, _⟩ => show win0_1.index t 1 * 1024 + 1 * (y 1).val = (y 1).val; omega
theorem hg (c : Dev nD) (t : Fin cfg0.N) : iblk m c 3 t = V m c main_v1 := by
  obtain ⟨⟨-, -, -, -, -, -, h0, h1, -⟩, -⟩ := idx_facts t
  funext y
  show V m c main_v1 _ = _
  refine congrArg _ (funext fun a => Fin.ext ?_)
  match a with
  | ⟨0, _⟩ => show win0_3.index t 0 * 1 + 1 * (y 0).val = (y 0).val; omega
  | ⟨1, _⟩ => show win0_3.index t 1 * 1024 + 1 * (y 1).val = (y 1).val; omega
theorem hr (c : Dev nD) (t : Fin cfg0.N) : iblk m c 4 t = V m c main_v2 := by
  obtain ⟨⟨-, -, -, -, -, -, -, -, h0, h1⟩, -⟩ := idx_facts t
  funext y
  show V m c main_v2 _ = _
  refine congrArg _ (funext fun a => Fin.ext ?_)
  match a with
  | ⟨0, _⟩ => show win0_4.index t 0 * 1024 + 1 * (y 0).val = (y 0).val; omega
  | ⟨1, _⟩ => show win0_4.index t 1 * 128 + 1 * (y 1).val = (y 1).val; omega

/-- A tile's rows are the whole array's. -/
theorem hn_eq (c : Dev nD) (t : Fin cfg0.N) (b : Fin 96) (hb : b.val = win0_5.index t 0) (r : Fin 512) :
    hnE (fun k => iblk m c 0 t (ix2 r k)) (iblk m c 1 t) (fun k => iblk m c 2 t (ix2 r k))
      = hnA (V m c main_arg0) (V m c main_v0) (V m c main_arg2) ⟨b.val * 512 + r.val, by omega⟩ := by
  unfold hnA
  rw [hw]
  exact congrArg₂ (fun p q => hnE p (V m c main_v0) q) (funext fun k => ha m c t b hb r k) (funext fun k => hh m c t b hb r k)

/-- What a grid point writes back is its row tile of the result. -/
theorem flushed5_eq (c : Dev nD) (t : Fin cfg0.N) :
    (dats m 0 c).flushed 5 t = ((cfg0.win 5).blk t).view.read (Elt Ideal) (Gh m c) := by
  rw [Value.flushed5]
  unfold out0_5
  rw [View.canon_unit_zero hz2, View.ld_unit_zero hz2, View.ld_unit_zero hz2, View.ld_unit_zero hz2]
  obtain ⟨-, h60, h70, h51, h61, h71, hlt⟩ := idx_facts t
  funext y
  obtain ⟨r, j, rfl⟩ : ∃ (r : Fin 512) (j : Fin 1024), y = ix2 r j := ⟨_, _, eq_ix2 y⟩
  refine (pay2_apply _ _ _ r j).trans ?_
  have ey : (((cfg0.win 5).blk t).view.emb (ix2 r j) : S49152x1024.Idx)
      = ix2 (n0 := 49152) (n1 := 1024) ⟨win0_5.index t 0 * 512 + r.val, by omega⟩ j := by
    refine funext fun a => Fin.ext ?_
    match a with
    | ⟨0, _⟩ => show win0_5.index t 0 * 512 + 1 * r.val = win0_5.index t 0 * 512 + r.val; omega
    | ⟨1, _⟩ => show win0_5.index t 1 * 1024 + 1 * j.val = j.val; omega
  show _ = Gh m c (((cfg0.win 5).blk t).view.emb (ix2 r j))
  rw [ey]
  exact congrFun (hn_eq m c t ⟨win0_5.index t 0, hlt⟩ rfl r) j

/-- Every index of the result is in some grid point's block. -/
theorem cover5 (i : S49152x1024.Idx) : ∃ t : Fin cfg0.N, (cfg0.win 5).flush t = true ∧ i ∈ ((cfg0.win 5).blk t).view.set := by
  have h0 : (i 0).val < 49152 := (i 0).isLt
  have h1 : (i 1).val < 1024 := (i 1).isLt
  obtain ⟨t, e0⟩ := points ⟨(i 0).val / 512, by omega⟩
  obtain ⟨-, h60, h70, h51, h61, h71, hlt⟩ := idx_facts t
  refine ⟨t, flush0_5 t, ?_⟩
  show i ∈ ((View.whole main_v3_0).slice (win0_5.rect t)).set
  rw [View.set_slice_whole, Rect.mem_set_unit]
  dsimp only at e0
  intro a
  match a with
  | ⟨0, _⟩ => show win0_5.index t 0 * 512 ≤ (i 0).val ∧ (i 0).val < win0_5.index t 0 * 512 + 512; omega
  | ⟨1, _⟩ => show win0_5.index t 1 * 1024 ≤ (i 1).val ∧ (i 1).val < win0_5.index t 1 * 1024 + 1024; omega

/-- The result array after the run. -/
theorem final5 (c : Dev nD) : (dats m 0 c).arrAt 5 cfg0.N = Gh m c :=
  (dats m 0 c).arrAt_eq_of_cover 5 (Gh m c) (fun t _ => flushed5_eq m c t) cover5

/-- What a grid point writes back is its row tile of the result. -/
theorem flushed6_eq (c : Dev nD) (t : Fin cfg0.N) :
    (dats m 0 c).flushed 6 t = ((cfg0.win 6).blk t).view.read (Elt Ideal) (Gu m c) := by
  rw [Value.flushed6]
  unfold out0_6
  rw [View.canon_unit_zero hz2, View.ld_unit_zero hz2, View.ld_unit_zero hz2, View.ld_unit_zero hz2, View.ld_unit_zero hz2]
  obtain ⟨-, h60, h70, h51, h61, h71, hlt⟩ := idx_facts t
  funext y
  obtain ⟨r, j, rfl⟩ : ∃ (r : Fin 512) (j : Fin 1024), y = ix2 r j := ⟨_, _, eq_ix2 y⟩
  refine (pay3_apply _ _ _ _ r j).trans ?_
  have ey : (((cfg0.win 6).blk t).view.emb (ix2 r j) : S49152x1024.Idx)
      = ix2 (n0 := 49152) (n1 := 1024) ⟨win0_5.index t 0 * 512 + r.val, by omega⟩ j := by
    refine funext fun a => Fin.ext ?_
    match a with
    | ⟨0, _⟩ => show win0_6.index t 0 * 512 + 1 * r.val = win0_5.index t 0 * 512 + r.val; omega
    | ⟨1, _⟩ => show win0_6.index t 1 * 1024 + 1 * j.val = j.val; omega
  show _ = Gu m c (((cfg0.win 6).blk t).view.emb (ix2 r j))
  rw [ey]
  rw [hn_eq m c t ⟨win0_5.index t 0, hlt⟩ rfl r, hg]

/-- Every index of the result is in some grid point's block. -/
theorem cover6 (i : S49152x1024.Idx) : ∃ t : Fin cfg0.N, (cfg0.win 6).flush t = true ∧ i ∈ ((cfg0.win 6).blk t).view.set := by
  have h0 : (i 0).val < 49152 := (i 0).isLt
  have h1 : (i 1).val < 1024 := (i 1).isLt
  obtain ⟨t, e0⟩ := points ⟨(i 0).val / 512, by omega⟩
  obtain ⟨-, h60, h70, h51, h61, h71, hlt⟩ := idx_facts t
  refine ⟨t, flush0_6 t, ?_⟩
  show i ∈ ((View.whole main_v3_1).slice (win0_6.rect t)).set
  rw [View.set_slice_whole, Rect.mem_set_unit]
  dsimp only at e0
  intro a
  match a with
  | ⟨0, _⟩ => show win0_6.index t 0 * 512 ≤ (i 0).val ∧ (i 0).val < win0_6.index t 0 * 512 + 512; omega
  | ⟨1, _⟩ => show win0_6.index t 1 * 1024 ≤ (i 1).val ∧ (i 1).val < win0_6.index t 1 * 1024 + 1024; omega

/-- The result array after the run. -/
theorem final6 (c : Dev nD) : (dats m 0 c).arrAt 6 cfg0.N = Gu m c :=
  (dats m 0 c).arrAt_eq_of_cover 6 (Gu m c) (fun t _ => flushed6_eq m c t) cover6

/-- What a grid point writes back is its row tile of the result. -/
theorem flushed7_eq (c : Dev nD) (t : Fin cfg0.N) :
    (dats m 0 c).flushed 7 t = ((cfg0.win 7).blk t).view.read (Elt Ideal) (Gl m c) := by
  rw [Value.flushed7]
  unfold out0_7
  rw [View.canon_unit_zero hz2, View.ld_unit_zero hz2, View.ld_unit_zero hz2, View.ld_unit_zero hz2, View.ld_unit_zero hz2, View.ld_unit_zero hz2]
  obtain ⟨-, h60, h70, h51, h61, h71, hlt⟩ := idx_facts t
  funext y
  obtain ⟨r, j, rfl⟩ : ∃ (r : Fin 512) (j : Fin 128), y = ix2 r j := ⟨_, _, eq_ix2 y⟩
  refine (pay7_apply _ _ _ _ _ r j).trans ?_
  have ey : (((cfg0.win 7).blk t).view.emb (ix2 r j) : S49152x128.Idx)
      = ix2 (n0 := 49152) (n1 := 128) ⟨win0_5.index t 0 * 512 + r.val, by omega⟩ j := by
    refine funext fun a => Fin.ext ?_
    match a with
    | ⟨0, _⟩ => show win0_7.index t 0 * 512 + 1 * r.val = win0_5.index t 0 * 512 + r.val; omega
    | ⟨1, _⟩ => show win0_7.index t 1 * 128 + 1 * j.val = j.val; omega
  show _ = Gl m c (((cfg0.win 7).blk t).view.emb (ix2 r j))
  rw [ey]
  rw [hn_eq m c t ⟨win0_5.index t 0, hlt⟩ rfl r, hg, hr]

/-- Every index of the result is in some grid point's block. -/
theorem cover7 (i : S49152x128.Idx) : ∃ t : Fin cfg0.N, (cfg0.win 7).flush t = true ∧ i ∈ ((cfg0.win 7).blk t).view.set := by
  have h0 : (i 0).val < 49152 := (i 0).isLt
  have h1 : (i 1).val < 128 := (i 1).isLt
  obtain ⟨t, e0⟩ := points ⟨(i 0).val / 512, by omega⟩
  obtain ⟨-, h60, h70, h51, h61, h71, hlt⟩ := idx_facts t
  refine ⟨t, flush0_7 t, ?_⟩
  show i ∈ ((View.whole main_v3_2).slice (win0_7.rect t)).set
  rw [View.set_slice_whole, Rect.mem_set_unit]
  dsimp only at e0
  intro a
  match a with
  | ⟨0, _⟩ => show win0_7.index t 0 * 512 ≤ (i 0).val ∧ (i 0).val < win0_7.index t 0 * 512 + 512; omega
  | ⟨1, _⟩ => show win0_7.index t 1 * 128 ≤ (i 1).val ∧ (i 1).val < win0_7.index t 1 * 128 + 128; omega

/-- The result array after the run. -/
theorem final7 (c : Dev nD) : (dats m 0 c).arrAt 7 cfg0.N = Gl m c :=
  (dats m 0 c).arrAt_eq_of_cover 7 (Gl m c) (fun t _ => flushed7_eq m c t) cover7

end Cert.ProjProof

end
-- ==== Proof.ProjValue.lean ====
/-
  The output projection's kernel computes its reference: the residual stream and its normalised rows always, the router's
  logits where the gain and the router's weight are finite (the kernel adds products with `u - u` and `w - w`, which
  are zero for a real number only).
-/
module

public import proofs.«01_k».proof.Defs
public import proofs.«01_k».proof.Proof.ProjKernel
public import proofs.«01_k».proof.Proof.Finite
public import proofs.«01_k».proof.Proof.Gen.ProjRefIdeal.Run
public import proofs.«01_k».proof.Proof.Gen.ProjRefIdeal.Read
public import Idealize.ShloMosaic.Lib.KernelVsHost
public import Idealize.ShloMosaic.Lib.StableHlo.RunRead

@[expose] public section

set_option maxRecDepth 16384

noncomputable section

namespace Cert.ProjProof

open Cert.ProjIdeal Cert.ProjIdeal.Gen Idealize.ShloMosaic Idealize.ShloMosaic.TcCoe Idealize.SL.Sem
open Idealize.ShloMosaic.ValueIdx
open Cert.ProjRefIdeal.Read
open scoped BigOperators
open Cert.Rms

/-- The reference's residual stream. -/
theorem ref2 (x0 : FVec Ideal S49152x1024 .bf16) (x1 : FVec Ideal S1024x1024 .f32) (x2 : FVec Ideal S49152x1024 .f32) (r : Fin 49152) (j : Fin 1024) :
    val_main_v2 (F := Ideal) x0 x1 x2 (ix2 r j) = hnA x0 x1 x2 r j := by
  rw [val_main_v2_apply, val_main_v1_apply]
  refine congrArg (x2 (ix2 r j) + ·) (Finset.sum_congr rfl fun k _ => congrArg₂ (· * ·) ?_ (congrArg x1 ?_))
  · exact congrArg x0 (funext fun a => match a with | ⟨0, _⟩ => rfl | ⟨1, _⟩ => rfl)
  · exact funext fun a => match a with | ⟨0, _⟩ => rfl | ⟨1, _⟩ => rfl

/-- The reference's normalised rows. -/
theorem ref15 (x0 : FVec Ideal S49152x1024 .bf16) (x1 : FVec Ideal S1024x1024 .f32) (x2 : FVec Ideal S49152x1024 .f32) (x3 : FVec Ideal S1024 .f32)
    (r : Fin 49152) (j : Fin 1024) :
    val_main_v15 (F := Ideal) x0 x1 x2 x3 (ix2 r j) = rmsE (hnA x0 x1 x2 r) (fun k => x3 (ix1 k)) j := by
  have e1 : val_main_v4 (F := Ideal) x0 x1 x2 (idx_main_v5 (idx_main_v11 (ix2 r j))) = ∑ k : Fin 1024, hnA x0 x1 x2 r k * hnA x0 x1 x2 r k := by
    rw [val_main_v4_apply, val_main_cst_apply]
    refine (congrArg (· + _) Ideal.ofBits_zero_f32).trans ((zero_add _).trans ?_)
    refine Finset.sum_congr rfl fun k _ => ?_
    have e : idx_main_v4 (idx_main_v5 (idx_main_v11 (ix2 r j))) k = ix2 r k := funext fun a => match a with | ⟨0, _⟩ => rfl | ⟨1, _⟩ => rfl
    rw [e, val_main_v3_apply, ref2]; rfl
  have e2 : idx_main_v13 (idx_main_v14 (ix2 r j)) = ix1 j := funext fun a => match a with | ⟨0, _⟩ => rfl
  rw [val_main_v15_apply, val_main_v12_apply, val_main_v11_apply, val_main_v10_apply, val_main_v9_apply, val_main_v8_apply, val_main_v7_apply,
    val_main_v6_apply, val_main_v5_apply, val_main_v14_apply, val_main_v13_apply, e1, e2, ref2]
  rfl

/-- The reference's logits before the padding. -/
theorem ref16 (x0 : FVec Ideal S49152x1024 .bf16) (x1 : FVec Ideal S1024x1024 .f32) (x2 : FVec Ideal S49152x1024 .f32) (x3 : FVec Ideal S1024 .f32)
    (x4 : FVec Ideal S1024x16 .f32) (r : Fin 49152) (j : Fin 16) :
    val_main_v16 (F := Ideal) x0 x1 x2 x3 x4 (ix2 r j) = ∑ k : Fin 1024, rmsE (hnA x0 x1 x2 r) (fun k => x3 (ix1 k)) k * x4 (ix2 k j) := by
  rw [val_main_v16_apply]
  refine Finset.sum_congr rfl fun k _ => congrArg₂ (· * ·) ?_ (congrArg x4 ?_)
  · have e : lidx_main_v16 (ix2 r j) k = ix2 r k := funext fun a => match a with | ⟨0, _⟩ => rfl | ⟨1, _⟩ => rfl
    rw [e]
    exact ref15 x0 x1 x2 x3 r k
  · exact funext fun a => match a with | ⟨0, _⟩ => rfl | ⟨1, _⟩ => rfl

/-- With real rows and a real weight the kernel's three-part logit is the plain product. -/
theorem lgE_eq (u W : Fin 1024 → EReal) (hu : ∀ k, ∃ b : ℝ, u k = b) (hW : ∀ k, ∃ b : ℝ, W k = b) : lgE u W = ∑ k, u k * W k := by
  have z : ∀ x : EReal, (∃ b : ℝ, x = b) → x - x = 0 := fun x ⟨b, hb⟩ => by rw [hb, ← EReal.coe_sub, sub_self]; rfl
  unfold lgE
  have h1 : ∑ k, (u k - u k) * W k = 0 := Finset.sum_eq_zero fun k _ => by rw [z _ (hu k), zero_mul]
  have h2 : ∑ k, u k * (W k - W k) = 0 := Finset.sum_eq_zero fun k _ => by rw [z _ (hW k), mul_zero]
  rw [h1, h2, add_zero, add_zero]

/-- The padding's value is zero. -/
theorem padv (i : S_.Idx) : sitofp (F := Ideal) .f32 (constantI S_ 32 0#32) i = (0 : EReal) := by
  show (((0#32 : BitVec 32).toInt : ℝ) : EReal) = 0
  simp

theorem pad_in {M : Nat} (x : (⟨2, ![M, 16]⟩ : Shape).Idx → EReal) (h : (⟨2, ![M, 16]⟩ : Shape).Pads ![0, 0] ![0, 112] ![0, 0] ⟨2, ![M, 128]⟩)
    (v : S_.Idx → EReal) (hu : 0 < S_.numel) (r : Fin M) (j : Fin 128) (hj : j.val < 16) :
    pad ⟨2, ![M, 128]⟩ ![0, 0] ![0, 112] ![0, 0] x v h hu (ix2 r j) = x (ix2 r ⟨j.val, hj⟩) := by
  refine pad_apply_of_inside _ _ _ x v h hu _ _ fun a => ?_
  match a with
  | ⟨0, _⟩ => show r.val = 0 + r.val * 1; omega
  | ⟨1, _⟩ => show j.val = 0 + j.val * 1; omega
theorem pad_out {M : Nat} (x : (⟨2, ![M, 16]⟩ : Shape).Idx → EReal) (h : (⟨2, ![M, 16]⟩ : Shape).Pads ![0, 0] ![0, 112] ![0, 0] ⟨2, ![M, 128]⟩)
    (v : S_.Idx → EReal) (hu : 0 < S_.numel) (r : Fin M) (j : Fin 128) (hj : ¬j.val < 16) :
    pad ⟨2, ![M, 128]⟩ ![0, 0] ![0, 112] ![0, 0] x v h hu (ix2 r j) = v (Shape.Idx.first hu) := by
  refine pad_apply_of_not_inside _ _ _ x v h hu _ 1 fun hn => hj ?_
  have h3 : (j.val - 0) / (0 + 1) < 16 := hn.2.2
  omega

variable (m : (ℓ : Loc nD τ sig) → Buf (Elt Ideal) ℓ) (ρ : Dev nD → PrngReg)

theorem V_arg0 (c : Dev nD) : V m c main_arg0 = m ((c : Thread nD τ).loc main_arg0) := by
  dsimp only [V, hostOps0]; after_reads_simp
theorem V_arg2 (c : Dev nD) : V m c main_arg2 = m ((c : Thread nD τ).loc main_arg2) := by
  dsimp only [V, hostOps0]; after_reads_simp
theorem V_v0 (c : Dev nD) : V m c main_v0 = m ((c : Thread nD τ).loc main_arg1) := by
  dsimp only [V, hostOps0]; after_reads_simp; rfl
theorem V_v1 (c : Dev nD) : (fun k : Fin 1024 => (V m c main_v1 : S1x1024.Idx → EReal) (ix2 0 k))
    = fun k : Fin 1024 => (m ((c : Thread nD τ).loc main_arg3) : S1024.Idx → EReal) (ix1 k) := by
  have e : V m c main_v1 = shapeCast S1x1024 (m ((c : Thread nD τ).loc main_arg3)) shapeCasts_S1024_S1x1024 := by
    dsimp only [V, hostOps0]; after_reads_simp; rfl
  rw [e]
  funext k
  refine shapeCast_apply (s := S1024) _ _ _ _ ?_
  rw [Shape.rowMajor_val_one, Shape.rowMajor_val_two]
  show k.val = 0 * 1024 + k.val
  omega
theorem V_v2 (c : Dev nD) : V m c main_v2 = pad S1024x128 ![0, 0] ![0, 112] ![0, 0] (m ((c : Thread nD τ).loc main_arg4) : S1024x16.Idx → EReal)
    (sitofp (F := Ideal) .f32 (constantI S_ 32 0#32)) pads_S1024x16_S1024x128_000_01120 h_S_ := by
  dsimp only [V, hostOps0]; after_reads_simp; rfl

theorem value5 (c : Dev nD) : (dats m 0 c).arrAt 5 cfg0.N
    = val_main_v2 (F := Ideal) (m ((c : Thread nD τ).loc main_arg0)) (m ((c : Thread nD τ).loc main_arg1)) (m ((c : Thread nD τ).loc main_arg2)) := by
  rw [final5]
  unfold Gh
  rw [V_arg0, V_v0, V_arg2]
  funext i
  obtain ⟨r, j, rfl⟩ : ∃ (r : Fin 49152) (j : Fin 1024), i = ix2 r j := ⟨_, _, eq_ix2 i⟩
  exact (ref2 _ _ _ r j).symm
theorem value6 (c : Dev nD) : (dats m 0 c).arrAt 6 cfg0.N
    = val_main_v17 (F := Ideal) (m ((c : Thread nD τ).loc main_arg0)) (m ((c : Thread nD τ).loc main_arg1)) (m ((c : Thread nD τ).loc main_arg2))
        (m ((c : Thread nD τ).loc main_arg3)) := by
  rw [final6]
  unfold Gu
  rw [V_arg0, V_v0, V_arg2, V_v1]
  funext i
  obtain ⟨r, j, rfl⟩ : ∃ (r : Fin 49152) (j : Fin 1024), i = ix2 r j := ⟨_, _, eq_ix2 i⟩
  exact (ref15 _ _ _ _ r j).symm

theorem value7 (c : Dev nD) (hg : ∀ k : Fin 1024, ∃ b : ℝ, (m ((c : Thread nD τ).loc main_arg3) : S1024.Idx → EReal) (ix1 k) = (b : EReal))
    (hr : ∀ (k : Fin 1024) (j : Fin 16), ∃ b : ℝ, (m ((c : Thread nD τ).loc main_arg4) : S1024x16.Idx → EReal) (ix2 k j) = (b : EReal)) :
    (dats m 0 c).arrAt 7 cfg0.N
    = val_main_v18 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  rw [final7]
  unfold Gl
  rw [V_arg0, V_v0, V_arg2, V_v1, V_v2]
  funext i
  obtain ⟨r, j, rfl⟩ : ∃ (r : Fin 49152) (j : Fin 128), i = ix2 r j := ⟨_, _, eq_ix2 i⟩
  have hu := fun k : Fin 1024 => rms_real (hnA (m ((c : Thread nD τ).loc main_arg0)) (m ((c : Thread nD τ).loc main_arg1)) (m ((c : Thread nD τ).loc main_arg2)) r)
    (fun k => (m ((c : Thread nD τ).loc main_arg3) : S1024.Idx → EReal) (ix1 k)) k (hg k)
  unfold val_main_v18
  by_cases hj : j.val < 16
  · have e : (fun k : Fin 1024 => pad S1024x128 ![0, 0] ![0, 112] ![0, 0] (m ((c : Thread nD τ).loc main_arg4) : S1024x16.Idx → EReal)
        (sitofp (F := Ideal) .f32 (constantI S_ 32 0#32)) pads_S1024x16_S1024x128_000_01120 h_S_ (ix2 k j))
        = fun k : Fin 1024 => (m ((c : Thread nD τ).loc main_arg4) : S1024x16.Idx → EReal) (ix2 k ⟨j.val, hj⟩) := funext fun k => pad_in _ _ _ _ k j hj
    refine ((congrArg (lgE _) e).trans (lgE_eq _ _ hu fun k => hr k _)).trans ?_
    exact ((pad_in _ _ _ _ r j hj).trans (ref16 _ _ _ _ _ r ⟨j.val, hj⟩)).symm
  · have e : (fun k : Fin 1024 => pad S1024x128 ![0, 0] ![0, 112] ![0, 0] (m ((c : Thread nD τ).loc main_arg4) : S1024x16.Idx → EReal)
        (sitofp (F := Ideal) .f32 (constantI S_ 32 0#32)) pads_S1024x16_S1024x128_000_01120 h_S_ (ix2 k j))
        = fun _ : Fin 1024 => (0 : EReal) := funext fun k => (pad_out _ _ _ _ k j hj).trans (padv _)
    refine ((congrArg (lgE _) e).trans (lgE_eq _ _ hu fun k => ⟨0, rfl⟩)).trans ?_
    refine Eq.trans ?_ ((pad_out _ _ _ _ r j hj).trans (padv _)).symm
    exact Finset.sum_eq_zero fun k _ => mul_zero _

/-- The shape facts the precondition's function takes. -/
theorem preFacts : Cert.Pre_finite_router.Facts where
  bcast_S_S1024 := by decide
  bcast_S_S1024x16 := by decide

/-- From equal arguments, the gain and the router's weight finite, the idealized kernel and its idealized reference leave
    the same three arrays. -/
theorem algebraic : Cert.algebraic_ProjIdeal_ProjRefIdeal_pre_finite_router (hPre_finite_router := preFacts) := fun m ρ m' ρ' hpre hag =>
  ⟨fun c => val_main_v2 (F := Ideal) (m ((c : Thread nD τ).loc main_arg0)) (m ((c : Thread nD τ).loc main_arg1)) (m ((c : Thread nD τ).loc main_arg2)),
    fun c => val_main_v17 (F := Ideal) (m ((c : Thread nD τ).loc main_arg0)) (m ((c : Thread nD τ).loc main_arg1)) (m ((c : Thread nD τ).loc main_arg2))
        (m ((c : Thread nD τ).loc main_arg3)),
    fun c => val_main_v18 (F := Ideal) (m ((c : Thread nD τ).loc main_arg0)) (m ((c : Thread nD τ).loc main_arg1)) (m ((c : Thread nD τ).loc main_arg2))
        (m ((c : Thread nD τ).loc main_arg3)) (m ((c : Thread nD τ).loc main_arg4)),
    (θ_run _ _ _).mono (fun _ h c => ⟨(h c).1.trans (value5 m c), (h c).2.1.trans (value6 m c), (h c).2.2.1.trans (value7 m c
        (fun k => Cert.Finite.real_of_abs_lt _ _ _ (hpre c).1 (ix1 k)) (fun k j => Cert.Finite.real_of_abs_lt _ _ _ (hpre c).2 (ix2 k j))), (h c).2.2.2⟩)
      (Cert.ProjIdeal.Value.run_blocks m ρ),
    (θ_run _ _ _).mono (fun _ h c => by
      obtain ⟨h0, h1, h2, h3, h4⟩ := hag c
      refine ⟨(h c).1.trans ?_, (h c).2.1.trans ?_, (h c).2.2.1.trans ?_, (h c).2.2.2⟩
      · rw [val_main_v2_eq]; exact congr (congr (congrArg _ h0) h1) h2
      · rw [val_main_v17_eq]; exact congr (congr (congr (congrArg _ h0) h1) h2) h3
      · refine Eq.trans (b := val_main_v18 (F := Ideal) _ _ _ _ _) rfl ?_
        exact congr (congr (congr (congr (congrArg _ h0) h1) h2) h3) h4) (Cert.ProjRefIdeal.Value.run m' ρ')⟩

end Cert.ProjProof

end
-- ==== Proof.RefFrames.lean ====
/-
  The frames of the four references: each runs, leaves its arguments unchanged and every semaphore at zero.
-/
module

public import proofs.«01_k».proof.Defs
public import proofs.«01_k».proof.Proof.Gen.FfnRefIdeal.Run
public import proofs.«01_k».proof.Proof.Gen.AttnRefIdeal.Run
public import proofs.«01_k».proof.Proof.Gen.QkvRefIdeal.Run
public import proofs.«01_k».proof.Proof.Gen.ProjRefIdeal.Run
public import Idealize.ShloMosaic.Lib.Quiescent

@[expose] public section

set_option maxRecDepth 16384

noncomputable section

namespace Cert.RefFrames

open Idealize.ShloMosaic Idealize.SL.Sem

/-- The frame of the reference of the attention. -/
theorem attn : Cert.quiescent_AttnRefIdeal := fun m g _ =>
  (θ_run _ _ _).mono (fun r h => ⟨fun c => (h c).2, sem_eq_zero_of_no_sems rfl r.2⟩) (Cert.AttnRefIdeal.Value.run m g)

/-- The frame of the reference of the feed-forward. -/
theorem ffn : Cert.quiescent_FfnRefIdeal := fun m g _ =>
  (θ_run _ _ _).mono (fun r h => ⟨fun c => (h c).2, sem_eq_zero_of_no_sems rfl r.2⟩) (Cert.FfnRefIdeal.Value.run m g)

/-- The frame of the reference of the projection to queries, keys and values. -/
theorem qkv : Cert.quiescent_QkvRefIdeal := fun m g _ =>
  (θ_run _ _ _).mono (fun r h => ⟨fun c => (h c).2.2.2, sem_eq_zero_of_no_sems rfl r.2⟩) (Cert.QkvRefIdeal.Value.run m g)

/-- The frame of the reference of the output projection. -/
theorem proj : Cert.quiescent_ProjRefIdeal := fun m g _ =>
  (θ_run _ _ _).mono (fun r h => ⟨fun c => (h c).2.2.2, sem_eq_zero_of_no_sems rfl r.2⟩) (Cert.ProjRefIdeal.Value.run m g)

end Cert.RefFrames

end
-- ==== Proof.lean ====
/-
  The certificate: every claim of `Cert.Claim`, each by the theorem of its own module.
-/
module

public import proofs.«01_k».proof.Defs
public import proofs.«01_k».proof.Proof.Gen.AttnIdeal.Value
public import proofs.«01_k».proof.Proof.Gen.Attn.Frame
public import proofs.«01_k».proof.Proof.Gen.AttnRefIdeal.Run
public import proofs.«01_k».proof.Proof.Gen.AttnRefIdeal.Read
public import proofs.«01_k».proof.Proof.Gen.FfnIdeal.Value
public import proofs.«01_k».proof.Proof.Gen.Ffn.Frame
public import proofs.«01_k».proof.Proof.Gen.FfnRefIdeal.Run
public import proofs.«01_k».proof.Proof.Gen.FfnRefIdeal.Read
public import proofs.«01_k».proof.Proof.Gen.QkvIdeal.Value
public import proofs.«01_k».proof.Proof.Gen.Qkv.Frame
public import proofs.«01_k».proof.Proof.Gen.QkvRefIdeal.Run
public import proofs.«01_k».proof.Proof.Gen.QkvRefIdeal.Read
public import proofs.«01_k».proof.Proof.Gen.ProjIdeal.Value
public import proofs.«01_k».proof.Proof.Gen.Proj.Frame
public import proofs.«01_k».proof.Proof.Gen.ProjRefIdeal.Run
public import proofs.«01_k».proof.Proof.Gen.ProjRefIdeal.Read
public import proofs.«01_k».proof.Proof.AttnValue
public import proofs.«01_k».proof.Proof.FfnValue
public import proofs.«01_k».proof.Proof.QkvValue
public import proofs.«01_k».proof.Proof.ProjValue
public import proofs.«01_k».proof.Proof.RefFrames
public import Idealize.ShloMosaic.Adequacy
public import Idealize.ShloMosaic.Init

@[expose] public section

noncomputable section

namespace Cert.Proof

open Idealize.ShloMosaic Idealize.SL.Sem

/-- The claims: each program runs to the end, leaves its arguments unchanged and every semaphore at zero; each idealized
    kernel is its kernel's text over the extended reals; and from equal arguments (where a precondition is stated, from
    arguments it holds of) an idealized kernel and its idealized reference leave equal results. -/
theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts, Cert.Qkv.Gen.facts, Cert.QkvIdeal.Gen.facts, Cert.QkvRefIdeal.Gen.facts, Cert.Proj.Gen.facts, Cert.ProjIdeal.Gen.facts, Cert.ProjRefIdeal.Gen.facts, Cert.AttnProof.preFacts, Cert.ProjProof.preFacts,
    fun m ρ _ => Cert.Attn.Gen.frame m ρ,
    fun m ρ _ => Cert.AttnIdeal.Gen.frame m ρ,
    fun m ρ _ => Cert.AttnIdeal.Gen.frame m ρ,
    Cert.RefFrames.attn,
    fun m g _ => Cert.RefFrames.attn m g trivial,
    fun m ρ _ => Cert.Ffn.Gen.frame m ρ,
    fun m ρ _ => Cert.FfnIdeal.Gen.frame m ρ,
    Cert.RefFrames.ffn,
    fun m ρ _ => Cert.Qkv.Gen.frame m ρ,
    fun m ρ _ => Cert.QkvIdeal.Gen.frame m ρ,
    Cert.RefFrames.qkv,
    fun m ρ _ => Cert.Proj.Gen.frame m ρ,
    fun m ρ _ => Cert.ProjIdeal.Gen.frame m ρ,
    fun m ρ _ => Cert.ProjIdeal.Gen.frame m ρ,
    Cert.RefFrames.proj,
    fun m g _ => Cert.RefFrames.proj m g trivial,
    trivial,
    Cert.AttnProof.algebraic,
    trivial,
    Cert.FfnProof.algebraic,
    trivial,
    Cert.QkvProof.algebraic,
    trivial,
    Cert.ProjProof.algebraic⟩

end Cert.Proof

end
